-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys_KernelIdeal [hPre_finite_queries_and_keys_KernelIdeal : Cert.Pre_finite_queries_and_keys_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys_ReferenceIdeal [hPre_finite_queries_and_keys_ReferenceIdeal : Cert.Pre_finite_queries_and_keys_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_and_keys_KernelIdeal [hKernelIdeal : Cert.KernelIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_and_keys_ReferenceIdeal [hReferenceIdeal : Cert.ReferenceIdeal.Facts] [hPre_finite_queries_and_keys_ReferenceIdeal : Cert.Pre_finite_queries_and_keys_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "q_scale" .f32 0x3E0293EE#32 (((Real.sqrt 128)⁻¹ * (Real.log 2)⁻¹ : ℝ) : EReal)
  ∧ IdealRules.named_const.Statement Cert.KernelIdeal.κ "mask" .f32 0xCE6E6B28#32 ⊥

def algebraic_KernelIdeal_ReferenceIdeal_pre_finite_queries_and_keys_KernelIdeal [hKernelIdeal : Cert.KernelIdeal.Facts] [hReferenceIdeal : Cert.ReferenceIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![1, 4096, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.block ⟨3, ![1, 1024, 1024]⟩ ⟨3, ![1, 4096, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_queries_and_keys_KernelIdeal : Cert.Pre_finite_queries_and_keys_KernelIdeal.Facts) (hPre_finite_queries_and_keys_ReferenceIdeal : Cert.Pre_finite_queries_and_keys_ReferenceIdeal.Facts),
    quiescent_Kernel (hKernel := hKernel)
    ∧ quiescent_KernelIdeal (hKernelIdeal := hKernelIdeal)
    ∧ quiescent_KernelIdeal_pre_finite_queries_and_keys_KernelIdeal (hKernelIdeal := hKernelIdeal) (hPre_finite_queries_and_keys_KernelIdeal := hPre_finite_queries_and_keys_KernelIdeal)
    ∧ quiescent_ReferenceIdeal (hReferenceIdeal := hReferenceIdeal)
    ∧ quiescent_ReferenceIdeal_pre_finite_queries_and_keys_ReferenceIdeal (hReferenceIdeal := hReferenceIdeal) (hPre_finite_queries_and_keys_ReferenceIdeal := hPre_finite_queries_and_keys_ReferenceIdeal)
    ∧ preserves_Kernel_KernelIdeal
    ∧ algebraic_KernelIdeal_ReferenceIdeal_pre_finite_queries_and_keys_KernelIdeal (hKernelIdeal := hKernelIdeal) (hReferenceIdeal := hReferenceIdeal) (hPre_finite_queries_and_keys_KernelIdeal := hPre_finite_queries_and_keys_KernelIdeal)
-- ==== Pre_finite_queries_and_keys_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x8x128 : S_.BroadcastsInDim S1x1024x8x128 (![] : Fin 0 → Fin S1x1024x8x128.rank)

variable [Facts]

def fn {F : FTy → Type} [FloatOps F] (main_arg0 : FVec F S1x1024x1024 .bf16) (main_arg1 : FVec F S1024x1024 .bf16) (main_arg2 : FVec F S1x1024x8x128 .bf16) (main_arg3 : FVec F S1x1024x8x128 .bf16) (main_arg4 : FVec F S1024x1024 .bf16) : IVec S1x1024x1024 1 × IVec S1024x1024 1 × IVec S1x1024x8x128 1 :=
  let main_v0 : FVec F S1x1024x1024 .bf16 := Host.absf main_arg0
  let main_cst : FVec F S_ .bf16 := constant S_ .bf16 0x7F80#16
  let main_v1 : FVec F S1x1024x1024 .bf16 := broadcastInDim S1x1024x1024 ![] bcast_S_S1x1024x1024 main_cst
  let main_v2 : IVec S1x1024x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1x1024x8x128 .bf16 := Host.absf main_arg2
  let main_cst_1 : FVec F S_ .bf16 := constant S_ .bf16 0x7F80#16
  let main_v7 : FVec F S1x1024x8x128 .bf16 := broadcastInDim S1x1024x8x128 ![] bcast_S_S1x1024x8x128 main_cst_1
  let main_v8 : IVec S1x1024x8x128 1 := cmpf .olt main_v6 main_v7
  (main_v2, main_v5, main_v8)
-- ==== Pre_finite_queries_and_keys_ReferenceIdeal.lean ====
abbrev S1x4096x1024 : Shape := ⟨3, ![1, 4096, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x4096x1024 : S_.BroadcastsInDim S1x4096x1024 (![] : Fin 0 → Fin S1x4096x1024.rank)
  bcast_S_S1024x1024 : S_.BroadcastsInDim S1024x1024 (![] : Fin 0 → Fin S1024x1024.rank)
  bcast_S_S1x4096x8x128 : S_.BroadcastsInDim S1x4096x8x128 (![] : Fin 0 → Fin S1x4096x8x128.rank)

variable [Facts]

def fn {F : FTy → Type} [FloatOps F] (main_arg0 : FVec F S1x4096x1024 .bf16) (main_arg1 : FVec F S1024x1024 .bf16) (main_arg2 : FVec F S1x4096x8x128 .bf16) (main_arg3 : FVec F S1x4096x8x128 .bf16) (main_arg4 : FVec F S1024x1024 .bf16) : IVec S1x4096x1024 1 × IVec S1024x1024 1 × IVec S1x4096x8x128 1 :=
  let main_v0 : FVec F S1x4096x1024 .bf16 := Host.absf main_arg0
  let main_cst : FVec F S_ .bf16 := constant S_ .bf16 0x7F80#16
  let main_v1 : FVec F S1x4096x1024 .bf16 := broadcastInDim S1x4096x1024 ![] bcast_S_S1x4096x1024 main_cst
  let main_v2 : IVec S1x4096x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1x4096x8x128 .bf16 := Host.absf main_arg2
  let main_cst_1 : FVec F S_ .bf16 := constant S_ .bf16 0x7F80#16
  let main_v7 : FVec F S1x4096x8x128 .bf16 := broadcastInDim S1x4096x8x128 ![] bcast_S_S1x4096x8x128 main_cst_1
  let main_v8 : IVec S1x4096x8x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S4x8x1024x128 : Shape := ⟨4, ![4, 8, 1024, 128]⟩
abbrev S8x1024x1 : Shape := ⟨3, ![8, 1024, 1]⟩
abbrev S2x8 : Shape := ⟨2, ![2, 8]⟩
abbrev S8 : Shape := ⟨1, ![8]⟩
abbrev S4 : Shape := ⟨1, ![4]⟩
abbrev S_ : Shape := ⟨0, ![]⟩
abbrev S1024x128 : Shape := ⟨2, ![1024, 128]⟩
abbrev S1x1x1024x128 : Shape := ⟨4, ![1, 1, 1024, 128]⟩
abbrev S1x1 : Shape := ⟨2, ![1, 1]⟩
abbrev S1 : Shape := ⟨1, ![1]⟩
abbrev S512x128 : Shape := ⟨2, ![512, 128]⟩
abbrev S1x1x512x128 : Shape := ⟨4, ![1, 1, 512, 128]⟩
abbrev S512x512 : Shape := ⟨2, ![512, 512]⟩
abbrev S512 : Shape := ⟨1, ![512]⟩
abbrev S512x1 : Shape := ⟨2, ![512, 1]⟩
abbrev S1x512x1 : Shape := ⟨3, ![1, 512, 1]⟩
abbrev S512x1024 : Shape := ⟨2, ![512, 1024]⟩
abbrev S1x1024x1 : Shape := ⟨3, ![1, 1024, 1]⟩
abbrev S1024x1 : Shape := ⟨2, ![1024, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x8x128, .bf16⟩
  | .hbm, ⟨3, _⟩ => ⟨S1x1024x8x128, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .f32⟩
  | .hbm, ⟨9, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S4x8x1024x128, .bf16⟩
  | .local _ .vmem, ⟨7, _⟩ => ⟨S4x8x1024x128, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .bf16⟩
  | .local _ .vmem, ⟨12, _⟩ => ⟨S8x1024x1, .f32⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 118 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | _ => false

abbrev sig : RefSig :=
  (ofTc nBuf bufTy 1 118 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_97 : BitVec 32 := 1#32
  let v92 : BitVec 32 := Scalar.muli v6 c1_i32_97
  let v93 : BitVec 32 := Scalar.addi c0_i32_98 v92
  v93.toNat
def k0_dev4 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_111 : BitVec 32 := 1#32
  let v102 : BitVec 32 := Scalar.muli v6 c1_i32_111
  let v103 : BitVec 32 := Scalar.addi c0_i32_112 v102
  v103.toNat
def k0_dev5 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_125 : BitVec 32 := 1#32
  let v112 : BitVec 32 := Scalar.muli v6 c1_i32_125
  let v113 : BitVec 32 := Scalar.addi c0_i32_126 v112
  v113.toNat
def k0_dev6 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_139 : BitVec 32 := 1#32
  let v122 : BitVec 32 := Scalar.muli v6 c1_i32_139
  let v123 : BitVec 32 := Scalar.addi c0_i32_140 v122
  v123.toNat
def k0_dev7 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_153 : BitVec 32 := 1#32
  let v132 : BitVec 32 := Scalar.muli v6 c1_i32_153
  let v133 : BitVec 32 := Scalar.addi c0_i32_154 v132
  v133.toNat
def k0_dev8 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_167 : BitVec 32 := 1#32
  let v142 : BitVec 32 := Scalar.muli v6 c1_i32_167
  let v143 : BitVec 32 := Scalar.addi c0_i32_168 v142
  v143.toNat
def k0_dev9 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_181 : BitVec 32 := 1#32
  let v152 : BitVec 32 := Scalar.muli v6 c1_i32_181
  let v153 : BitVec 32 := Scalar.addi c0_i32_182 v152
  v153.toNat
def k0_dev10 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_195 : BitVec 32 := 1#32
  let v162 : BitVec 32 := Scalar.muli v6 c1_i32_195
  let v163 : BitVec 32 := Scalar.addi c0_i32_196 v162
  v163.toNat
def k0_dev11 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_209 : BitVec 32 := 1#32
  let v172 : BitVec 32 := Scalar.muli v6 c1_i32_209
  let v173 : BitVec 32 := Scalar.addi c0_i32_210 v172
  v173.toNat
def k0_dev12 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_223 : BitVec 32 := 1#32
  let v182 : BitVec 32 := Scalar.muli v6 c1_i32_223
  let v183 : BitVec 32 := Scalar.addi c0_i32_224 v182
  v183.toNat
def k0_dev13 (d0 : Dev nD) : Nat :=
  let c0_i32_237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_236 : BitVec 32 := 1#32
  let v192 : BitVec 32 := Scalar.muli v6 c1_i32_236
  let v193 : BitVec 32 := Scalar.addi c0_i32_237 v192
  v193.toNat
def k0_dev14 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_250 : BitVec 32 := 1#32
  let v202 : BitVec 32 := Scalar.muli v6 c1_i32_250
  let v203 : BitVec 32 := Scalar.addi c0_i32_251 v202
  v203.toNat
def k0_dev15 (d0 : Dev nD) : Nat :=
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_263 : BitVec 32 := 1#32
  let v212 : BitVec 32 := Scalar.muli v6 c1_i32_263
  let v213 : BitVec 32 := Scalar.addi c0_i32_264 v212
  v213.toNat
def k0_dev16 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_277 : BitVec 32 := 1#32
  let v222 : BitVec 32 := Scalar.muli v6 c1_i32_277
  let v223 : BitVec 32 := Scalar.addi c0_i32_278 v222
  v223.toNat
def k0_dev17 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_290 : BitVec 32 := 1#32
  let v232 : BitVec 32 := Scalar.muli v6 c1_i32_290
  let v233 : BitVec 32 := Scalar.addi c0_i32_291 v232
  v233.toNat
def k0_dev18 (d0 : Dev nD) : Nat :=
  let c0_i32_305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_304 : BitVec 32 := 1#32
  let v242 : BitVec 32 := Scalar.muli v6 c1_i32_304
  let v243 : BitVec 32 := Scalar.addi c0_i32_305 v242
  v243.toNat
def k0_dev19 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_316 : BitVec 32 := 1#32
  let v252 : BitVec 32 := Scalar.muli v4 c1_i32_316
  let v253 : BitVec 32 := Scalar.addi c0_i32_317 v252
  v253.toNat
def k0_dev20 (d0 : Dev nD) : Nat :=
  let c0_i32_329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_328 : BitVec 32 := 1#32
  let v262 : BitVec 32 := Scalar.muli v4 c1_i32_328
  let v263 : BitVec 32 := Scalar.addi c0_i32_329 v262
  v263.toNat
def k0_dev21 (d0 : Dev nD) : Nat :=
  let c0_i32_341 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_340 : BitVec 32 := 1#32
  let v272 : BitVec 32 := Scalar.muli v4 c1_i32_340
  let v273 : BitVec 32 := Scalar.addi c0_i32_341 v272
  v273.toNat
def k0_dev22 (d0 : Dev nD) : Nat :=
  let c0_i32_353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_352 : BitVec 32 := 1#32
  let v282 : BitVec 32 := Scalar.muli v4 c1_i32_352
  let v283 : BitVec 32 := Scalar.addi c0_i32_353 v282
  v283.toNat
def k0_dev23 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_364 : BitVec 32 := 1#32
  let v292 : BitVec 32 := Scalar.muli v4 c1_i32_364
  let v293 : BitVec 32 := Scalar.addi c0_i32_365 v292
  v293.toNat
def k0_dev24 (d0 : Dev nD) : Nat :=
  let c0_i32_377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_376 : BitVec 32 := 1#32
  let v302 : BitVec 32 := Scalar.muli v4 c1_i32_376
  let v303 : BitVec 32 := Scalar.addi c0_i32_377 v302
  v303.toNat
def k0_dev25 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_388 : BitVec 32 := 1#32
  let v312 : BitVec 32 := Scalar.muli v4 c1_i32_388
  let v313 : BitVec 32 := Scalar.addi c0_i32_389 v312
  v313.toNat
def k0_dev26 (d0 : Dev nD) : Nat :=
  let c0_i32_401 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_400 : BitVec 32 := 1#32
  let v322 : BitVec 32 := Scalar.muli v4 c1_i32_400
  let v323 : BitVec 32 := Scalar.addi c0_i32_401 v322
  v323.toNat
def k0_dev27 (d0 : Dev nD) : Nat :=
  let c0_i32_413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_412 : BitVec 32 := 1#32
  let v332 : BitVec 32 := Scalar.muli v4 c1_i32_412
  let v333 : BitVec 32 := Scalar.addi c0_i32_413 v332
  v333.toNat
def k0_dev28 (d0 : Dev nD) : Nat :=
  let c0_i32_425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_424 : BitVec 32 := 1#32
  let v342 : BitVec 32 := Scalar.muli v4 c1_i32_424
  let v343 : BitVec 32 := Scalar.addi c0_i32_425 v342
  v343.toNat
def k0_dev29 (d0 : Dev nD) : Nat :=
  let c0_i32_437 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_436 : BitVec 32 := 1#32
  let v352 : BitVec 32 := Scalar.muli v4 c1_i32_436
  let v353 : BitVec 32 := Scalar.addi c0_i32_437 v352
  v353.toNat
def k0_dev30 (d0 : Dev nD) : Nat :=
  let c0_i32_449 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_448 : BitVec 32 := 1#32
  let v362 : BitVec 32 := Scalar.muli v4 c1_i32_448
  let v363 : BitVec 32 := Scalar.addi c0_i32_449 v362
  v363.toNat
def k0_dev31 (d0 : Dev nD) : Nat :=
  let c0_i32_461 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_460 : BitVec 32 := 1#32
  let v372 : BitVec 32 := Scalar.muli v4 c1_i32_460
  let v373 : BitVec 32 := Scalar.addi c0_i32_461 v372
  v373.toNat
def k0_dev32 (d0 : Dev nD) : Nat :=
  let c0_i32_473 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_472 : BitVec 32 := 1#32
  let v382 : BitVec 32 := Scalar.muli v4 c1_i32_472
  let v383 : BitVec 32 := Scalar.addi c0_i32_473 v382
  v383.toNat
def k0_dev33 (d0 : Dev nD) : Nat :=
  let c0_i32_485 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_484 : BitVec 32 := 1#32
  let v392 : BitVec 32 := Scalar.muli v4 c1_i32_484
  let v393 : BitVec 32 := Scalar.addi c0_i32_485 v392
  v393.toNat
def k0_dev34 (d0 : Dev nD) : Nat :=
  let c0_i32_497 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_496 : BitVec 32 := 1#32
  let v402 : BitVec 32 := Scalar.muli v4 c1_i32_496
  let v403 : BitVec 32 := Scalar.addi c0_i32_497 v402
  v403.toNat
def k0_dev35 (d0 : Dev nD) : Nat :=
  let c0_i32_869 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_868 : BitVec 32 := 1#32
  let v809 : BitVec 32 := Scalar.muli v6 c1_i32_868
  let v810 : BitVec 32 := Scalar.addi c0_i32_869 v809
  v810.toNat
def k0_dev36 (d0 : Dev nD) : Nat :=
  let c0_i32_897 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_896 : BitVec 32 := 1#32
  let v827 : BitVec 32 := Scalar.muli v6 c1_i32_896
  let v828 : BitVec 32 := Scalar.addi c0_i32_897 v827
  v828.toNat
def k0_dev37 (d0 : Dev nD) : Nat :=
  let c0_i32_927 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_926 : BitVec 32 := 1#32
  let v848 : BitVec 32 := Scalar.muli v6 c1_i32_926
  let v849 : BitVec 32 := Scalar.addi c0_i32_927 v848
  v849.toNat
def k0_dev38 (d0 : Dev nD) : Nat :=
  let c0_i32_955 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_954 : BitVec 32 := 1#32
  let v866 : BitVec 32 := Scalar.muli v6 c1_i32_954
  let v867 : BitVec 32 := Scalar.addi c0_i32_955 v866
  v867.toNat
def k0_dev39 (d0 : Dev nD) : Nat :=
  let c0_i32_985 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_984 : BitVec 32 := 1#32
  let v887 : BitVec 32 := Scalar.muli v6 c1_i32_984
  let v888 : BitVec 32 := Scalar.addi c0_i32_985 v887
  v888.toNat
def k0_dev40 (d0 : Dev nD) : Nat :=
  let c0_i32_1013 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1012 : BitVec 32 := 1#32
  let v905 : BitVec 32 := Scalar.muli v6 c1_i32_1012
  let v906 : BitVec 32 := Scalar.addi c0_i32_1013 v905
  v906.toNat
def k0_dev41 (d0 : Dev nD) : Nat :=
  let c0_i32_1043 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1042 : BitVec 32 := 1#32
  let v926 : BitVec 32 := Scalar.muli v6 c1_i32_1042
  let v927 : BitVec 32 := Scalar.addi c0_i32_1043 v926
  v927.toNat
def k0_dev42 (d0 : Dev nD) : Nat :=
  let c0_i32_1071 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1070 : BitVec 32 := 1#32
  let v944 : BitVec 32 := Scalar.muli v6 c1_i32_1070
  let v945 : BitVec 32 := Scalar.addi c0_i32_1071 v944
  v945.toNat
def k0_dev43 (d0 : Dev nD) : Nat :=
  let c0_i32_1333 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1332 : BitVec 32 := 1#32
  let v1125 : BitVec 32 := Scalar.muli v4 c1_i32_1332
  let v1126 : BitVec 32 := Scalar.addi c0_i32_1333 v1125
  v1126.toNat
def k0_dev44 (d0 : Dev nD) : Nat :=
  let c0_i32_1345 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1344 : BitVec 32 := 1#32
  let v1135 : BitVec 32 := Scalar.muli v4 c1_i32_1344
  let v1136 : BitVec 32 := Scalar.addi c0_i32_1345 v1135
  v1136.toNat
def k0_dev45 (d0 : Dev nD) : Nat :=
  let c0_i32_1383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1382 : BitVec 32 := 1#32
  let v1164 : BitVec 32 := Scalar.muli v4 c1_i32_1382
  let v1165 : BitVec 32 := Scalar.addi c0_i32_1383 v1164
  v1165.toNat
def k0_dev46 (d0 : Dev nD) : Nat :=
  let c0_i32_1395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1394 : BitVec 32 := 1#32
  let v1174 : BitVec 32 := Scalar.muli v4 c1_i32_1394
  let v1175 : BitVec 32 := Scalar.addi c0_i32_1395 v1174
  v1175.toNat
def k0_dev47 (d0 : Dev nD) : Nat :=
  let c0_i32_1433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1432 : BitVec 32 := 1#32
  let v1203 : BitVec 32 := Scalar.muli v4 c1_i32_1432
  let v1204 : BitVec 32 := Scalar.addi c0_i32_1433 v1203
  v1204.toNat
def k0_dev48 (d0 : Dev nD) : Nat :=
  let c0_i32_1445 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1444 : BitVec 32 := 1#32
  let v1213 : BitVec 32 := Scalar.muli v4 c1_i32_1444
  let v1214 : BitVec 32 := Scalar.addi c0_i32_1445 v1213
  v1214.toNat
def k0_dev49 (d0 : Dev nD) : Nat :=
  let c0_i32_1483 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1482 : BitVec 32 := 1#32
  let v1242 : BitVec 32 := Scalar.muli v4 c1_i32_1482
  let v1243 : BitVec 32 := Scalar.addi c0_i32_1483 v1242
  v1243.toNat
def k0_dev50 (d0 : Dev nD) : Nat :=
  let c0_i32_1495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1494 : BitVec 32 := 1#32
  let v1252 : BitVec 32 := Scalar.muli v4 c1_i32_1494
  let v1253 : BitVec 32 := Scalar.addi c0_i32_1495 v1252
  v1253.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "q_scale" => some (((Real.sqrt 128)⁻¹ * (Real.log 2)⁻¹ : ℝ) : EReal)
  | _ => none
-- ==== ReferenceIdeal.lean ====
abbrev S1x4096x1024 : Shape := ⟨3, ![1, 4096, 1024]⟩
abbrev S1024x1024 : Shape := ⟨2, ![1024, 1024]⟩
abbrev S1x4096x8x128 : Shape := ⟨4, ![1, 4096, 8, 128]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S1x8x4096x4096 : Shape := ⟨4, ![1, 8, 4096, 4096]⟩
abbrev S1x1x4096x4096 : Shape := ⟨4, ![1, 1, 4096, 4096]⟩
abbrev S1x8x4096 : Shape := ⟨3, ![1, 8, 4096]⟩
abbrev S1x8x4096x1 : Shape := ⟨4, ![1, 8, 4096, 1]⟩
abbrev S1x1x4096x1 : Shape := ⟨4, ![1, 1, 4096, 1]⟩
abbrev S1x8x128x4096 : Shape := ⟨4, ![1, 8, 128, 4096]⟩

abbrev nBuf : Space → Nat
  | .hbm => 96
  | .vmem => 0
  | .smem => 0
  | _ => 0

abbrev bufTy : (tb : Table) → Fin (tcTables nBuf tb) → BufTy
  | .hbm, ⟨0, _⟩ => ⟨S1x4096x1024, .bf16⟩
  | .hbm, ⟨1, _⟩ => ⟨S1024x1024, .bf16⟩
  | .hbm, ⟨2, _⟩ => ⟨S1x4096x8x128, .bf16⟩
  | .hbm, ⟨3, _⟩ => ⟨S1x4096x8x128, .bf16⟩
  | .hbm, ⟨4, _⟩ => ⟨S1024x1024, .bf16⟩
  | .hbm, ⟨5, _⟩ => ⟨S1x4096x1024, .f32⟩
  | .hbm, ⟨6, _⟩ => ⟨S1024x1024, .f32⟩
  | .hbm, ⟨7, _⟩ => ⟨S1x4096x8x128, .f32⟩
  | .hbm, ⟨8, _⟩ => ⟨S1x4096x8x128, .f32⟩
  | .hbm, ⟨9, _⟩ => ⟨S1024x1024, .f32⟩
  | .hbm, ⟨10, _⟩ => ⟨S1x4096x1024, .f32⟩
  | .hbm, ⟨11, _⟩ => ⟨S1x4096x8x128, .f32⟩
  | .hbm, ⟨12, _⟩ => ⟨S4096, .i32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096, .i32⟩
  | .hbm, ⟨33, _⟩ => ⟨S_, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S1x4096, .i32⟩
  | .hbm, ⟨52, _⟩ => ⟨S4096x4096, .i32⟩
  | .hbm, ⟨53, _⟩ => ⟨S4096x4096, .i32⟩
  | .hbm, ⟨54, _⟩ => ⟨S4096x4096, .i1⟩
  | .hbm, ⟨55, _⟩ => ⟨S1x8x4096x4096, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1x8x4096x4096, .f32⟩
  | .hbm, ⟨60, _⟩ => ⟨S1x8x4096x4096, .f32⟩
  | .hbm, ⟨61, _⟩ => ⟨S1x1x4096x4096, .i1⟩
  | .hbm, ⟨62, _⟩ => ⟨S_, .f32⟩
  | .hbm, ⟨63, _⟩ => ⟨S_, .f32⟩
  | .hbm, ⟨64, _⟩ => ⟨S1x8x4096x4096, .i1⟩
  | .hbm, ⟨65, _⟩ => ⟨S1x8x4096x4096, .f32⟩
  | .hbm, ⟨66, _⟩ => ⟨S1x8x4096x4096, .f32⟩
  | .hbm, ⟨67, _⟩ => ⟨S_, .f32⟩
  | .hbm, ⟨68, _⟩ => ⟨S1x8x4096, .f32⟩
  | .hbm, ⟨69, _⟩ => ⟨S1x8x4096x1, .f32⟩
  | .hbm, ⟨70, _⟩ => ⟨S1x8x4096x4096, .f32⟩
  | .hbm, ⟨71, _⟩ => ⟨S1x8x4096x4096, .f32⟩
  | .hbm, ⟨72, _⟩ => ⟨S1x8x4096x4096, .f32⟩
  | .hbm, ⟨73, _⟩ => ⟨S_, .i1⟩
  | .hbm, ⟨74, _⟩ => ⟨S4096, .i1⟩
  | .hbm, ⟨75, _⟩ => ⟨S1x1x4096x1, .i1⟩
  | .hbm, ⟨76, _⟩ => ⟨S_, .f32⟩
  | .hbm, ⟨77, _⟩ => ⟨S1x8x4096, .f32⟩
  | .hbm, ⟨78, _⟩ => ⟨S1x8x4096x1, .f32⟩
  | .hbm, ⟨79, _⟩ => ⟨S_, .f32⟩
  | .hbm, ⟨80, _⟩ => ⟨S_, .f32⟩
  | .hbm, ⟨81, _⟩ => ⟨S1x8x4096x1, .i1⟩
  | .hbm, ⟨82, _⟩ => ⟨S1x8x4096x1, .f32⟩
  | .hbm, ⟨83, _⟩ => ⟨S1x8x4096x1, .f32⟩
  | .hbm, ⟨84, _⟩ => ⟨S1x8x4096x4096, .f32⟩
  | .hbm, ⟨85, _⟩ => ⟨S1x8x4096x4096, .f32⟩
  | .hbm, ⟨86, _⟩ => ⟨S1x1x4096x1, .i1⟩
  | .hbm, ⟨87, _⟩ => ⟨S_, .f32⟩
  | .hbm, ⟨88, _⟩ => ⟨S_, .f32⟩
  | .hbm, ⟨89, _⟩ => ⟨S1x8x4096x4096, .i1⟩
  | .hbm, ⟨90, _⟩ => ⟨S1x8x4096x4096, .f32⟩
  | .hbm, ⟨91, _⟩ => ⟨S1x8x4096x4096, .f32⟩
  | .hbm, ⟨92, _⟩ => ⟨S1x8x128x4096, .f32⟩
  | .hbm, ⟨93, _⟩ => ⟨S1x4096x8x128, .f32⟩
  | .hbm, ⟨94, _⟩ => ⟨S1x4096x1024, .f32⟩
  | .hbm, ⟨95, _⟩ => ⟨S1x4096x1024, .f32⟩
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_1 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v22 : Ref sig .tc := ⟨.hbm, 66, rfl⟩
abbrev main_cst_2 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_c_3 : Ref sig .tc := ⟨.hbm, 73, rfl⟩
abbrev main_v28 : Ref sig .tc := ⟨.hbm, 74, rfl⟩
abbrev main_v29 : Ref sig .tc := ⟨.hbm, 75, rfl⟩
abbrev main_cst_4 : Ref sig .tc := ⟨.hbm, 76, rfl⟩
abbrev main_v30 : Ref sig .tc := ⟨.hbm, 77, rfl⟩
abbrev main_v31 : Ref sig .tc := ⟨.hbm, 78, rfl⟩
abbrev main_cst_5 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_cst_6 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩

abbrev nD : Nat := 1
abbrev τ : Topo := Topo.v7x

variable {F : FTy → Type} [FloatOps F]
-- ==== Proof.Program.lean ====
/- The kernel's body, written once per block of the algorithm instead of once per head: slots, heads and
   copies are arguments, the two constants the query scaling and the diagonal mask are built from are
   parameters. `Same.lean` shows that the generated text is this program. -/
module

public import proofs.«01_k».proof.Proof.Gen.Kernel
public import proofs.«01_k».proof.Proof.Gen.Kernel.Points

@[expose] public section

set_option maxRecDepth 16384

noncomputable section

namespace Attn

open Idealize.ShloMosaic Idealize.ShloMosaic.TcCoe
open Idealize.SL Idealize.SL.Sem
open Cert.Kernel Cert.Kernel.Gen

/-! ## The ring, the copies and their semaphores -/

/-- The device to the right on the ring. -/
def right (d : Dev nD) : Dev nD := d + 1
/-- The device to the left on the ring. -/
def left (d : Dev nD) : Dev nD := d + 3

/-- One of the remote copies a device makes. A first hop takes a head of the device's own keys
    (`buf = false`) or values (`buf = true`) to the right or to the left; a second hop forwards what a
    first hop brought: four heads go on to the right, the other four to the left. -/
inductive Copy where
  | first (toLeft : Bool) (buf : Bool) (h : Fin 8)
  | second (toLeft : Bool) (buf : Bool) (h : Fin 4)
deriving DecidableEq

/-- Heads 0 to 3, forwarded to the right. -/
def lowHead (h : Fin 4) : Fin 8 := ⟨h.val, by omega⟩
/-- Heads 4 to 7, forwarded to the left. -/
def highHead (h : Fin 4) : Fin 8 := ⟨h.val + 4, by omega⟩

namespace Copy

/-- Whether the copy moves values (keys otherwise). -/
def buf : Copy → Bool
  | first _ b _ => b
  | second _ b _ => b

/-- The head the copy moves. -/
def head : Copy → Fin 8
  | first _ _ h => h
  | second false _ h => lowHead h
  | second true _ h => highHead h

/-- The slot the copy reads, at its sender. -/
def srcSlot : Copy → Fin 4
  | first _ _ _ => 0
  | second false _ _ => 1
  | second true _ _ => 3

/-- The slot the copy fills, at its receiver. -/
def dstSlot : Copy → Fin 4
  | first false _ _ => 1
  | first true _ _ => 3
  | second _ _ _ => 2

/-- The device device `d` sends the copy to. -/
def target (d : Dev nD) : Copy → Dev nD
  | first false _ _ => right d
  | first true _ _ => left d
  | second false _ _ => right d
  | second true _ _ => left d

/-- The semaphore counting the copy's departure at its sender. -/
def sendSem : Copy → DmaSem sig
  | first false false h => ⟨h.val + 6, by show _ < 118; omega⟩
  | first false true h => ⟨h.val + 38, by show _ < 118; omega⟩
  | first true false h => ⟨h.val + 70, by show _ < 118; omega⟩
  | first true true h => ⟨h.val + 86, by show _ < 118; omega⟩
  | second false false h => ⟨h.val + 14, by show _ < 118; omega⟩
  | second false true h => ⟨h.val + 46, by show _ < 118; omega⟩
  | second true false h => ⟨h.val + 102, by show _ < 118; omega⟩
  | second true true h => ⟨h.val + 110, by show _ < 118; omega⟩

/-- The semaphore counting the copy's arrival at its receiver. -/
def recvSem : Copy → DmaSem sig
  | first false false h => ⟨h.val + 22, by show _ < 118; omega⟩
  | first false true h => ⟨h.val + 54, by show _ < 118; omega⟩
  | first true false h => ⟨h.val + 78, by show _ < 118; omega⟩
  | first true true h => ⟨h.val + 94, by show _ < 118; omega⟩
  | second false false h => ⟨h.val + 30, by show _ < 118; omega⟩
  | second false true h => ⟨h.val + 62, by show _ < 118; omega⟩
  | second true false h => ⟨h.val + 106, by show _ < 118; omega⟩
  | second true true h => ⟨h.val + 114, by show _ < 118; omega⟩

end Copy

/-! ## The buffers -/

/-- The device's own queries' rows. -/
abbrev xRef : Memref sig .tc .vmem S1024x1024 .bf16 := Memref.whole cc0_stg0_0
/-- The query weights. -/
abbrev wqRef : Memref sig .tc .vmem S1024x1024 .bf16 := Memref.whole cc0_stg1_0
/-- The device's own keys (`false`) or values (`true`), one column block per head. -/
abbrev ownRef : Bool → Memref sig .tc .vmem S1024x1024 .bf16
  | false => Memref.whole cc0_stg2_0
  | true => Memref.whole cc0_stg3_0
/-- The output weights. -/
abbrev woRef : Memref sig .tc .vmem S1024x1024 .bf16 := Memref.whole cc0_stg4_0
/-- The result. -/
abbrev outRef : Memref sig .tc .vmem S1024x1024 .f32 := Memref.whole cc0_stg5_0
/-- The keys (`false`) or values (`true`) by slot and head: the device's own in slot 0, the left
    neighbour's in slot 1, the opposite device's in slot 2, the right neighbour's in slot 3. -/
abbrev kvRef : Bool → Memref sig .tc .vmem S4x8x1024x128 .bf16
  | false => Memref.whole cc0_scratch0
  | true => Memref.whole cc0_scratch1
/-- The scaled queries. -/
abbrev qRef : Memref sig .tc .vmem S1024x1024 .bf16 := Memref.whole cc0_scratch2
/-- The mask of the diagonal chunk. -/
abbrev biasRef : Memref sig .tc .vmem S1024x1024 .bf16 := Memref.whole cc0_scratch3
/-- The running weighted sums of the values. -/
abbrev accRef : Memref sig .tc .vmem S1024x1024 .f32 := Memref.whole cc0_scratch4
/-- The normalised context. -/
abbrev ctxRef : Memref sig .tc .vmem S1024x1024 .bf16 := Memref.whole cc0_scratch5
/-- The running sums of the weights. -/
abbrev lRef : Memref sig .tc .vmem S8x1024x1 .f32 := Memref.whole cc0_scratch6

/-! ## The rectangles -/

theorem inb_cols (h : Fin 8) : ∀ a, (![0, 128 * h.val] : Fin 2 → Nat) a + S1024x128.size a ≤ S1024x1024.size a := by
  revert h; decide
theorem inb_colsLo (h : Fin 8) : ∀ a, (![0, 128 * h.val] : Fin 2 → Nat) a + S512x128.size a ≤ S1024x1024.size a := by
  revert h; decide
theorem inb_colsHi (h : Fin 8) : ∀ a, (![512, 128 * h.val] : Fin 2 → Nat) a + S512x128.size a ≤ S1024x1024.size a := by
  revert h; decide
theorem inb_slab (s : Fin 4) (h : Fin 8) :
    ∀ a, (![s.val, h.val, 0, 0] : Fin 4 → Nat) a + S1x1x1024x128.size a ≤ S4x8x1024x128.size a := by
  revert s h; decide
theorem inb_slabLo (s : Fin 4) (h : Fin 8) :
    ∀ a, (![s.val, h.val, 0, 0] : Fin 4 → Nat) a + S1x1x512x128.size a ≤ S4x8x1024x128.size a := by
  revert s h; decide
theorem inb_row (h : Fin 8) : ∀ a, (![h.val, 0, 0] : Fin 3 → Nat) a + S1x1024x1.size a ≤ S8x1024x1.size a := by
  revert h; decide
theorem inb_rowLo (h : Fin 8) : ∀ a, (![h.val, 0, 0] : Fin 3 → Nat) a + S1x512x1.size a ≤ S8x1024x1.size a := by
  revert h; decide
theorem inb_rowHi (h : Fin 8) : ∀ a, (![h.val, 512, 0] : Fin 3 → Nat) a + S1x512x1.size a ≤ S8x1024x1.size a := by
  revert h; decide

/-- The whole of a square buffer. -/
abbrev allRect : Rect S1024x1024 := Rect.unit (s := S1024x1024) ![0, 0] S1024x1024.size inb_S1024x1024_S1024x1024_0_0
/-- Head `h`'s columns. -/
abbrev cols (h : Fin 8) : Rect S1024x1024 := Rect.unit (s := S1024x1024) ![0, 128 * h.val] S1024x128.size (inb_cols h)
/-- Head `h`'s columns, upper rows. -/
abbrev colsLo (h : Fin 8) : Rect S1024x1024 := Rect.unit (s := S1024x1024) ![0, 128 * h.val] S512x128.size (inb_colsLo h)
/-- Head `h`'s columns, lower rows. -/
abbrev colsHi (h : Fin 8) : Rect S1024x1024 := Rect.unit (s := S1024x1024) ![512, 128 * h.val] S512x128.size (inb_colsHi h)
/-- Slot `s`, head `h`. -/
abbrev slab (s : Fin 4) (h : Fin 8) : Rect S4x8x1024x128 :=
  Rect.unit (s := S4x8x1024x128) ![s.val, h.val, 0, 0] S1x1x1024x128.size (inb_slab s h)
/-- Slot `s`, head `h`, upper rows. -/
abbrev slabLo (s : Fin 4) (h : Fin 8) : Rect S4x8x1024x128 :=
  Rect.unit (s := S4x8x1024x128) ![s.val, h.val, 0, 0] S1x1x512x128.size (inb_slabLo s h)
/-- Head `h`'s weight sums. -/
abbrev row (h : Fin 8) : Rect S8x1024x1 := Rect.unit (s := S8x1024x1) ![h.val, 0, 0] S1x1024x1.size (inb_row h)
/-- Head `h`'s weight sums, upper rows. -/
abbrev rowLo (h : Fin 8) : Rect S8x1024x1 := Rect.unit (s := S8x1024x1) ![h.val, 0, 0] S1x512x1.size (inb_rowLo h)
/-- Head `h`'s weight sums, lower rows. -/
abbrev rowHi (h : Fin 8) : Rect S8x1024x1 := Rect.unit (s := S8x1024x1) ![h.val, 512, 0] S1x512x1.size (inb_rowHi h)

theorem packed_slab (s : Fin 4) (h : Fin 8) : (slab s h).PackedRows (EltTy.packing .bf16) :=
  .inr ⟨by decide, rfl, .inl ⟨⟨0, rfl⟩, ⟨512, rfl⟩⟩⟩
theorem packed_cols (h : Fin 8) : (cols h).PackedRows (EltTy.packing .bf16) :=
  .inr ⟨by decide, rfl, .inl ⟨⟨0, rfl⟩, ⟨512, rfl⟩⟩⟩

theorem kv_whole (b : Bool) : (kvRef b).IsWhole := by cases b <;> exact Memref.isWhole_whole _

/-- Slot `s`, head `h` of the keys or values, as a copy's end: a table of 1024 rows. -/
abbrev slabRef (b : Bool) (s : Fin 4) (h : Fin 8) : Memref sig .tc .vmem S1024x128 .bf16 :=
  ((kvRef b).slice (slab s h) (fun _ => rfl)).squeeze S1024x128 squeezes_S1x1x1024x128_S1024x128

theorem slabRef_words (b : Bool) (s : Fin 4) (h : Fin 8) : (slabRef b s h).view.WordExact :=
  ((kv_whole b).wordExact_slice rfl _ ((packed_slab s h).wholeWords)).reshape _ _

/-! ## The blocks -/

variable {F : FTy → Type} [FloatOps F]

/-- A kernel body. -/
abbrev Body (F : FTy → Type) [FloatOps F] := Prog (TpuEff nD τ sig (Elt F) Λ₀ .tc) PUnit

/-- Do `f` for every element of a list, then go on. -/
def loop {α : Type} (f : α → Body F → Body F) : List α → Body F → Body F
  | [], k => k
  | a :: l, k => f a (loop f l k)

/-- One signal on device `d`'s barrier. -/
def signalBarrier (d : Dev nD) (k : Body F) : Body F :=
  .op (.semSignal (Dev.tc d) (SemArray.scalar (sig.barrier 0 rfl) : Sems sig S_).sem 1) fun _ => k

/-- Wait for both neighbours' signals. -/
def awaitBarrier (k : Body F) : Body F :=
  .op (.semWait (SemArray.scalar (sig.barrier 0 rfl) : Sems sig S_).sem 2) fun _ => k

/-- Head `h` of the device's own keys or values goes into slot 0. -/
def takeIn (b : Bool) (h : Fin 8) (k : Body F) : Body F :=
  .op (.load (ownRef b) (cols h).toLoadRect (View.loadsAt_vmem h_S1024x128)) fun (v : Vec F S1024x128 .bf16) =>
  .op (.load (kvRef b) (slab 0 h).toLoadRect (View.loadsAt_vmem h_S1x1x1024x128)) fun _ =>
  .op (.store (kvRef b) (slab 0 h)
      (shapeCast S1x1x1024x128 (shapeCast S1024x128 v shapeCasts_S1024x128_S1024x128 : FVec F S1024x128 .bf16)
        shapeCasts_S1024x128_S1x1x1024x128 : FVec F S1x1x1024x128 .bf16)
      Finset.univ (View.stores_vmem h_S1x1x1024x128 ((kv_whole b).storeExact_slice rfl _ (packed_slab 0 h)) (fun _ => rfl))
      (.inl rfl)) fun _ => k

/-- Start a copy. -/
def startCopy (d : Dev nD) (j : Copy) (k : Body F) : Body F :=
  .op (.enqueueDma (slabRef j.buf j.srcSlot j.head)
    (.remote (Dev.tc (j.target d)) (slabRef j.buf j.dstSlot j.head) (.dma j.sendSem)) (.dma j.recvSem)
    (slabRef_words _ _ _) (slabRef_words _ _ _) ⟨⟨rfl, Or.inl rfl⟩, trivial⟩) fun _ => k

/-- Wait for a copy's arrival. -/
def awaitCopy (j : Copy) (k : Body F) : Body F :=
  .op (.waitDma2 j.recvSem (slabRef j.buf j.srcSlot j.head) (slabRef j.buf j.dstSlot j.head)
    (slabRef_words _ _ _) (slabRef_words _ _ _)) fun _ => k

/-- Wait for a copy's departure. -/
def awaitSent (j : Copy) (k : Body F) : Body F :=
  .op (.waitDma2 j.sendSem (slabRef j.buf j.dstSlot j.head) (slabRef j.buf j.srcSlot j.head)
    (slabRef_words _ _ _) (slabRef_words _ _ _)) fun _ => k

/-- The scaled queries' values. -/
def queries (qs : F .f32) (x wq : Vec F S1024x1024 .bf16) : FVec F S1024x1024 .bf16 :=
  shapeCast S1024x1024 (truncf .bf16 (mulf
    (matmul dot_S1024x1024_S1024x1024_S1024x1024_1_0_0_1_n_n none
      (shapeCast S1024x1024 x shapeCasts_S1024x1024_S1024x1024 : FVec F S1024x1024 .bf16)
      (shapeCast S1024x1024 wq shapeCasts_S1024x1024_S1024x1024 : FVec F S1024x1024 .bf16)
      (constant S1024x1024 .f32 0x00000000#32 : FVec F S1024x1024 .f32))
    (broadcast S1024x1024 qs : FVec F S1024x1024 .f32)) bitsLt_bf16_f32 : FVec F S1024x1024 .bf16)
    shapeCasts_S1024x1024_S1024x1024

/-- A position's block of 64, by a division that rounds down: the quotient, less one where the signs
    differ and it is not exact. -/
def blockOf (v : IVec S1024x1024 32) : IVec S1024x1024 32 :=
  have quo : IVec S1024x1024 32 := divsi v (broadcast S1024x1024 64#32)
  select (andi
      (cmpi .ne
        (subi (extui 32 (cmpi .sgt v (broadcast S1024x1024 0#32)) natLt_1_32)
          (extui 32 (cmpi .slt v (broadcast S1024x1024 0#32)) natLt_1_32))
        (broadcast S1024x1024 (Scalar.subi (Scalar.extui (Scalar.cmpi .sgt 64#32 0#32)) (Scalar.extui (Scalar.cmpi .slt 64#32 0#32)))))
      (cmpi .ne (remsi v (broadcast S1024x1024 64#32)) (broadcast S1024x1024 0#32)))
    (subi quo (broadcast S1024x1024 1#32)) quo

/-- The diagonal chunk's mask: 0 where the key's block does not come after the query's, `mask` elsewhere. -/
def biases (mask : F .f32) : FVec F S1024x1024 .bf16 :=
  shapeCast S1024x1024 (truncf .bf16 (select
      (cmpi .sle (blockOf (iota .tc S1024x1024 32 [1] iota_S1024x1024_d1_w32)) (blockOf (iota .tc S1024x1024 32 [0] iota_S1024x1024_d0_w32)))
      (broadcast S1024x1024 (Scalar.ofBits .f32 0x00000000#32 : F .f32))
      (broadcast S1024x1024 mask) : FVec F S1024x1024 .f32) bitsLt_bf16_f32 : FVec F S1024x1024 .bf16)
    shapeCasts_S1024x1024_S1024x1024

/-- Compute and keep the scaled queries. -/
def makeQueries (qs : F .f32) (k : Body F) : Body F :=
  .op (.load xRef allRect.toLoadRect (View.loadsAt_vmem h_S1024x1024)) fun (x : Vec F S1024x1024 .bf16) =>
  .op (.load wqRef allRect.toLoadRect (View.loadsAt_vmem h_S1024x1024)) fun (wq : Vec F S1024x1024 .bf16) =>
  .op (.load qRef allRect.toLoadRect (View.loadsAt_vmem h_S1024x1024)) fun _ =>
  .op (.store qRef allRect (queries qs x wq) Finset.univ
    (View.stores_vmem h_S1024x1024 ((Memref.isWhole_whole _).storeExact_slice rfl _ packedbf16_S1024x1024_S1024x1024_0_0) (fun _ => rfl))
    (.inl rfl)) fun _ => k

/-- Compute and keep the diagonal chunk's mask. -/
def makeBiases (mask : F .f32) (k : Body F) : Body F :=
  .op (.load biasRef allRect.toLoadRect (View.loadsAt_vmem h_S1024x1024)) fun _ =>
  .op (.store biasRef allRect (biases mask) Finset.univ
    (View.stores_vmem h_S1024x1024 ((Memref.isWhole_whole _).storeExact_slice rfl _ packedbf16_S1024x1024_S1024x1024_0_0) (fun _ => rfl))
    (.inl rfl)) fun _ => k

/-- The weights of the upper half of the diagonal chunk. -/
def weightsLo (q : Vec F S512x128 .bf16) (key : Vec F S1x1x512x128 .bf16) (bias : Vec F S512x512 .bf16) : FVec F S512x512 .bf16 :=
  exp2 (addf (truncf .bf16 (matmul dot_S512x128_S512x128_S512x512_1_1_0_0_n_n none q
    (shapeCast S512x128 key shapeCasts_S1x1x512x128_S512x128 : FVec F S512x128 .bf16)
    (constant S512x512 .f32 0x00000000#32 : FVec F S512x512 .f32)) bitsLt_bf16_f32 : FVec F S512x512 .bf16) bias)

/-- Their row sums. -/
def sumsLo (w : FVec F S512x512 .bf16) : FVec F S1x512x1 .f32 :=
  shapeCast S1x512x1 (shapeCast S512x1
    (multiReduction .add [1] S512 (extf .f32 w bitsLt_bf16_f32 : FVec F S512x512 .f32) 0x00000000#32 reduces_S512x512_S512 (.inl rfl) rfl : FVec F S512 .f32)
    shapeCasts_S512_S512x1 : FVec F S512x1 .f32) shapeCasts_S512x1_S1x512x1

/-- The values they weight. -/
def mixLo (w : FVec F S512x512 .bf16) (val : Vec F S1x1x512x128 .bf16) : FVec F S512x128 .f32 :=
  shapeCast S512x128 (matmul dot_S512x512_S512x128_S512x128_1_0_0_1_n_n none w
    (shapeCast S512x128 val shapeCasts_S1x1x512x128_S512x128 : FVec F S512x128 .bf16)
    (constant S512x128 .f32 0x00000000#32 : FVec F S512x128 .f32) : FVec F S512x128 .f32) shapeCasts_S512x128_S512x128

/-- The weights of the lower half of the diagonal chunk. -/
def weightsHi (q : Vec F S512x128 .bf16) (key : Vec F S1x1x1024x128 .bf16) (bias : Vec F S512x1024 .bf16) : FVec F S512x1024 .bf16 :=
  exp2 (addf (truncf .bf16 (matmul dot_S512x128_S1024x128_S512x1024_1_1_0_0_n_n none q
    (shapeCast S1024x128 key shapeCasts_S1x1x1024x128_S1024x128 : FVec F S1024x128 .bf16)
    (constant S512x1024 .f32 0x00000000#32 : FVec F S512x1024 .f32)) bitsLt_bf16_f32 : FVec F S512x1024 .bf16) bias)

/-- Their row sums. -/
def sumsHi (w : FVec F S512x1024 .bf16) : FVec F S1x512x1 .f32 :=
  shapeCast S1x512x1 (shapeCast S512x1
    (multiReduction .add [1] S512 (extf .f32 w bitsLt_bf16_f32 : FVec F S512x1024 .f32) 0x00000000#32 reduces_S512x1024_S512 (.inl rfl) rfl : FVec F S512 .f32)
    shapeCasts_S512_S512x1 : FVec F S512x1 .f32) shapeCasts_S512x1_S1x512x1

/-- The values they weight. -/
def mixHi (w : FVec F S512x1024 .bf16) (val : Vec F S1x1x1024x128 .bf16) : FVec F S512x128 .f32 :=
  shapeCast S512x128 (matmul dot_S512x1024_S1024x128_S512x128_1_0_0_1_n_n none w
    (shapeCast S1024x128 val shapeCasts_S1x1x1024x128_S1024x128 : FVec F S1024x128 .bf16)
    (constant S512x128 .f32 0x00000000#32 : FVec F S512x128 .f32) : FVec F S512x128 .f32) shapeCasts_S512x128_S512x128

/-- Head `h` against the device's own keys: the upper half of the rows sees only the upper half of the keys. -/
def diagonal (h : Fin 8) (k : Body F) : Body F :=
  .op (.load qRef (colsLo h).toLoadRect (View.loadsAt_vmem h_S512x128)) fun (q : Vec F S512x128 .bf16) =>
  .op (.load (kvRef false) (slabLo 0 h).toLoadRect (View.loadsAt_vmem h_S1x1x512x128)) fun (key : Vec F S1x1x512x128 .bf16) =>
  .op (.load biasRef (Rect.unit (s := S1024x1024) ![0, 0] S512x512.size inb_S1024x1024_S512x512_0_0).toLoadRect (View.loadsAt_vmem h_S512x512)) fun (bias : Vec F S512x512 .bf16) =>
  .op (.load lRef (rowLo h).toLoadRect (View.loadsAt_vmem h_S1x512x1)) fun _ =>
  .op (.store lRef (rowLo h) (sumsLo (weightsLo q key bias)) Finset.univ (View.stores_vmem_bits_univ h_S1x512x1 rfl) (.inl rfl)) fun _ =>
  .op (.load (kvRef true) (slabLo 0 h).toLoadRect (View.loadsAt_vmem h_S1x1x512x128)) fun (val : Vec F S1x1x512x128 .bf16) =>
  .op (.load accRef (colsLo h).toLoadRect (View.loadsAt_vmem h_S512x128)) fun _ =>
  .op (.store accRef (colsLo h) (mixLo (weightsLo q key bias) val) Finset.univ (View.stores_vmem_bits_univ h_S512x128 rfl) (.inl rfl)) fun _ =>
  .op (.load qRef (colsHi h).toLoadRect (View.loadsAt_vmem h_S512x128)) fun (q' : Vec F S512x128 .bf16) =>
  .op (.load (kvRef false) (slab 0 h).toLoadRect (View.loadsAt_vmem h_S1x1x1024x128)) fun (key' : Vec F S1x1x1024x128 .bf16) =>
  .op (.load biasRef (Rect.unit (s := S1024x1024) ![512, 0] S512x1024.size inb_S1024x1024_S512x1024_512_0).toLoadRect (View.loadsAt_vmem h_S512x1024)) fun (bias' : Vec F S512x1024 .bf16) =>
  .op (.load lRef (rowHi h).toLoadRect (View.loadsAt_vmem h_S1x512x1)) fun _ =>
  .op (.store lRef (rowHi h) (sumsHi (weightsHi q' key' bias')) Finset.univ (View.stores_vmem_bits_univ h_S1x512x1 rfl) (.inl rfl)) fun _ =>
  .op (.load (kvRef true) (slab 0 h).toLoadRect (View.loadsAt_vmem h_S1x1x1024x128)) fun (val' : Vec F S1x1x1024x128 .bf16) =>
  .op (.load accRef (colsHi h).toLoadRect (View.loadsAt_vmem h_S512x128)) fun _ =>
  .op (.store accRef (colsHi h) (mixHi (weightsHi q' key' bias') val') Finset.univ (View.stores_vmem_bits_univ h_S512x128 rfl) (.inl rfl)) fun _ => k

/-- The weights of another device's chunk: nothing in it is masked. -/
def weights (q : Vec F S1024x128 .bf16) (key : Vec F S1x1x1024x128 .bf16) : FVec F S1024x1024 .bf16 :=
  exp2 (truncf .bf16 (matmul dot_S1024x128_S1024x128_S1024x1024_1_1_0_0_n_n none q
    (shapeCast S1024x128 key shapeCasts_S1x1x1024x128_S1024x128 : FVec F S1024x128 .bf16)
    (constant S1024x1024 .f32 0x00000000#32 : FVec F S1024x1024 .f32)) bitsLt_bf16_f32 : FVec F S1024x1024 .bf16)

/-- The sums so far and a chunk's row sums. -/
def addSums (l : Vec F S1x1024x1 .f32) (w : FVec F S1024x1024 .bf16) : FVec F S1x1024x1 .f32 :=
  shapeCast S1x1024x1 (addf (shapeCast S1024x1 l shapeCasts_S1x1024x1_S1024x1 : FVec F S1024x1 .f32)
    (shapeCast S1024x1
      (multiReduction .add [1] S1024 (extf .f32 w bitsLt_bf16_f32 : FVec F S1024x1024 .f32) 0x00000000#32 reduces_S1024x1024_S1024 (.inl rfl) rfl : FVec F S1024 .f32)
      shapeCasts_S1024_S1024x1 : FVec F S1024x1 .f32) : FVec F S1024x1 .f32) shapeCasts_S1024x1_S1x1024x1

/-- The weighted values so far and a chunk's. -/
def addMix (acc : Vec F S1024x128 .f32) (w : FVec F S1024x1024 .bf16) (val : Vec F S1x1x1024x128 .bf16) : FVec F S1024x128 .f32 :=
  shapeCast S1024x128 (addf acc (matmul dot_S1024x1024_S1024x128_S1024x128_1_0_0_1_n_n none w
    (shapeCast S1024x128 val shapeCasts_S1x1x1024x128_S1024x128 : FVec F S1024x128 .bf16)
    (constant S1024x128 .f32 0x00000000#32 : FVec F S1024x128 .f32) : FVec F S1024x128 .f32) : FVec F S1024x128 .f32) shapeCasts_S1024x128_S1024x128

/-- Head `h` against the chunk in slot `s`. -/
def chunk (s : Fin 4) (h : Fin 8) (k : Body F) : Body F :=
  .op (.load qRef (cols h).toLoadRect (View.loadsAt_vmem h_S1024x128)) fun (q : Vec F S1024x128 .bf16) =>
  .op (.load (kvRef false) (slab s h).toLoadRect (View.loadsAt_vmem h_S1x1x1024x128)) fun (key : Vec F S1x1x1024x128 .bf16) =>
  .op (.load lRef (row h).toLoadRect (View.loadsAt_vmem h_S1x1024x1)) fun (l : Vec F S1x1024x1 .f32) =>
  .op (.load lRef (row h).toLoadRect (View.loadsAt_vmem h_S1x1024x1)) fun _ =>
  .op (.store lRef (row h) (addSums l (weights q key)) Finset.univ (View.stores_vmem_bits_univ h_S1x1024x1 rfl) (.inl rfl)) fun _ =>
  .op (.load accRef (cols h).toLoadRect (View.loadsAt_vmem h_S1024x128)) fun (acc : Vec F S1024x128 .f32) =>
  .op (.load (kvRef true) (slab s h).toLoadRect (View.loadsAt_vmem h_S1x1x1024x128)) fun (val : Vec F S1x1x1024x128 .bf16) =>
  .op (.load accRef (cols h).toLoadRect (View.loadsAt_vmem h_S1024x128)) fun _ =>
  .op (.store accRef (cols h) (addMix acc (weights q key) val) Finset.univ (View.stores_vmem_bits_univ h_S1024x128 rfl) (.inl rfl)) fun _ => k

/-- The chunk in slot `s` comes before the device's own: its keys are seen. -/
def seen (d : Dev nD) (s : Fin 4) : Prop := s.val ≤ d.val

instance (d : Dev nD) (s : Fin 4) : Decidable (seen d s) := Nat.decLe _ _

/-- Head `h` against the chunk in slot `s`, where that is seen. -/
def chunkIf (d : Dev nD) (s : Fin 4) (h : Fin 8) (k : Body F) : Body F :=
  if seen d s then chunk s h k else k

/-- The weighted sums over the sums of the weights. -/
def normalised (acc : Vec F S1024x128 .f32) (l : Vec F S1x1024x1 .f32) : FVec F S1024x128 .bf16 :=
  shapeCast S1024x128 (truncf .bf16 (mulf acc
    (broadcastTo S1024x128 (divf (broadcast S1024x1 (Scalar.ofBits .f32 0x3F800000#32 : F .f32))
      (shapeCast S1024x1 l shapeCasts_S1x1024x1_S1024x1 : FVec F S1024x1 .f32) : FVec F S1024x1 .f32)
      broadcasts_S1024x1_S1024x128 : FVec F S1024x128 .f32) : FVec F S1024x128 .f32) bitsLt_bf16_f32 : FVec F S1024x128 .bf16) shapeCasts_S1024x128_S1024x128

/-- Head `h`'s context. -/
def finish (h : Fin 8) (k : Body F) : Body F :=
  .op (.load accRef (cols h).toLoadRect (View.loadsAt_vmem h_S1024x128)) fun (acc : Vec F S1024x128 .f32) =>
  .op (.load lRef (row h).toLoadRect (View.loadsAt_vmem h_S1x1024x1)) fun (l : Vec F S1x1024x1 .f32) =>
  .op (.load ctxRef (cols h).toLoadRect (View.loadsAt_vmem h_S1024x128)) fun _ =>
  .op (.store ctxRef (cols h) (normalised acc l) Finset.univ
    (View.stores_vmem h_S1024x128 ((Memref.isWhole_whole _).storeExact_slice rfl _ (packed_cols h)) (fun _ => rfl)) (.inl rfl)) fun _ => k

/-- The context times the output weights. -/
def projected (ctx wo : Vec F S1024x1024 .bf16) : FVec F S1024x1024 .f32 :=
  matmul dot_S1024x1024_S1024x1024_S1024x1024_1_0_0_1_n_n none ctx
    (shapeCast S1024x1024 wo shapeCasts_S1024x1024_S1024x1024 : FVec F S1024x1024 .bf16)
    (constant S1024x1024 .f32 0x00000000#32 : FVec F S1024x1024 .f32)

/-- Compute and store the result. -/
def project (k : Body F) : Body F :=
  .op (.load ctxRef allRect.toLoadRect (View.loadsAt_vmem h_S1024x1024)) fun (ctx : Vec F S1024x1024 .bf16) =>
  .op (.load woRef allRect.toLoadRect (View.loadsAt_vmem h_S1024x1024)) fun (wo : Vec F S1024x1024 .bf16) =>
  .op (.load outRef allRect.toLoadRect (View.loadsAt_vmem h_S1024x1024)) fun _ =>
  .op (.store outRef allRect (projected ctx wo) Finset.univ (View.stores_vmem_bits_univ h_S1024x1024 rfl) (.inl rfl)) fun _ => k

/-- All heads. -/
def heads : List (Fin 8) := [0, 1, 2, 3, 4, 5, 6, 7]
/-- A second hop's heads, or half of a loop over all heads. -/
def halves : List (Fin 4) := [0, 1, 2, 3]

/-- The left neighbour's chunk, a head that is passed on. -/
def slot1Low (d : Dev nD) (i : Fin 4) (k : Body F) : Body F :=
  awaitCopy (.first false false (lowHead i)) <| startCopy d (.second false false i) <|
  awaitCopy (.first false true (lowHead i)) <| startCopy d (.second false true i) <|
  chunkIf d 1 (lowHead i) k

/-- The left neighbour's chunk, a head that is not. -/
def slot1High (d : Dev nD) (i : Fin 4) (k : Body F) : Body F :=
  awaitCopy (.first false false (highHead i)) <| awaitCopy (.first false true (highHead i)) <|
  chunkIf d 1 (highHead i) k

/-- The right neighbour's chunk, a head that is not passed on. -/
def slot3Low (d : Dev nD) (i : Fin 4) (k : Body F) : Body F :=
  awaitCopy (.first true false (lowHead i)) <| awaitCopy (.first true true (lowHead i)) <|
  chunkIf d 3 (lowHead i) k

/-- The right neighbour's chunk, a head that is. -/
def slot3High (d : Dev nD) (i : Fin 4) (k : Body F) : Body F :=
  awaitCopy (.first true false (highHead i)) <| awaitCopy (.first true true (highHead i)) <|
  startCopy d (.second true false i) <| startCopy d (.second true true i) <|
  chunkIf d 3 (highHead i) k

/-- The opposite device's chunk, a head that came from the left. -/
def slot2Low (d : Dev nD) (i : Fin 4) (k : Body F) : Body F :=
  awaitCopy (.second false false i) <| awaitCopy (.second false true i) <| chunkIf d 2 (lowHead i) k

/-- The opposite device's chunk, a head that came from the right. -/
def slot2High (d : Dev nD) (i : Fin 4) (k : Body F) : Body F :=
  awaitCopy (.second true false i) <| awaitCopy (.second true true i) <| chunkIf d 2 (highHead i) k

/-- The whole body at device `d`. -/
def bodyAt (qs mask : F .f32) (d : Dev nD) : Body F :=
  signalBarrier (left d) <| signalBarrier (right d) <| awaitBarrier <|
  loop (fun h k => takeIn false h <| takeIn true h k) heads <|
  loop (fun h k => startCopy d (.first false false h) <| startCopy d (.first false true h) k) heads <|
  loop (fun h k => startCopy d (.first true false h) <| startCopy d (.first true true h) k) heads <|
  makeQueries qs <| makeBiases mask <|
  loop diagonal heads <|
  loop (slot1Low d) halves <| loop (slot1High d) halves <|
  loop (slot3Low d) halves <| loop (slot3High d) halves <|
  loop (slot2Low d) halves <| loop (slot2High d) halves <|
  loop finish heads <|
  project <|
  loop (fun h => awaitSent (.first false false h)) heads <| loop (fun h => awaitSent (.first false true h)) heads <|
  loop (fun i => awaitSent (.second false false i)) halves <| loop (fun i => awaitSent (.second false true i)) halves <|
  loop (fun h => awaitSent (.first true false h)) heads <| loop (fun h => awaitSent (.first true true h)) heads <|
  loop (fun i => awaitSent (.second true false i)) halves <| loop (fun i => awaitSent (.second true true i)) halves <|
  .ret ⟨⟩

/-- The body: it reads its device number, then runs. -/
def body (qs mask : F .f32) : Body F := .op .deviceId (bodyAt qs mask)

/-- The one kernel of the program, with the two constants as parameters. -/
def defsOf (qs mask : F .f32) : Defs nD τ sig (Elt F) Λ₀ := Defs.onTc fun
  | 0, _ => body qs mask
  | ⟨_ + 1, h⟩, _ => absurd h (Nat.not_lt.2 (Nat.le_add_left _ _))

end Attn
-- ==== Proof.Slabs.lean ====
/- The buffers of keys and values piece by piece: which elements slot `s`, head `h` is, what a filled piece
   holds, what reading, storing and copying a piece do to that, and the whole buffer as its 32 pieces. -/
module

public import proofs.«01_k».proof.Proof.Program
public import Idealize.ShloMosaic.Lib.Pipeline.Regions
public import Idealize.ShloMosaic.Lib.Pipeline.Kit
public import Idealize.ShloMosaic.Lib.Pipeline.BigSepL
public import Idealize.ShloMosaic.Lib.Pipeline.TalkSched
public import Idealize.ShloMosaic.Lib.Pipeline.RegionTalk
public import Idealize.ShloMosaic.Lib.Pipeline.Value
public import Idealize.ShloMosaic.Lib.Rounds
public import Idealize.ShloMosaic.Lib.Ring
public import Idealize.ShloMosaic.Lib.Tactic

@[expose] public section

set_option maxRecDepth 16384

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

/-- The protocol's rounds, with two duties at a barrier. -/
abbrev UD : Type := URounds (GSem nD τ sig) Bool
/-- The resources of the pipeline's rounds and of the protocol's. -/
abbrev UU : Type := UR sig nD τ × UD

local notation "𝕄" => MT nD τ sig Unit (Elt F) ℕ UU ℕ

/-! ## Contents -/

/-- Row `r`, column `n` of a square table. -/
def at2 (r n : Fin 1024) : S1024x1024.Idx := fun a => match a with
  | 0 => r
  | 1 => n

theorem col_lt (h : Fin 8) (n : Fin 128) : 128 * h.val + n.val < 1024 := by omega

/-- Column `n` of head `h`. -/
def headCol (h : Fin 8) (n : Fin 128) : Fin 1024 := ⟨128 * h.val + n.val, col_lt h n⟩

/-- The device whose keys and values device `c` keeps in slot `s`. -/
def origin (s : Fin 4) (c : Dev nD) : Dev nD := c + match s with
  | 0 => 0
  | 1 => 3
  | 2 => 2
  | 3 => 1

/-- A copy takes to its target's slot what that slot is for. -/
theorem origin_target (j : Copy) (c : Dev nD) : origin j.dstSlot (j.target c) = origin j.srcSlot c := by
  have h₁ : ∀ c : Dev nD, origin 1 (right c) = origin 0 c := by decide
  have h₃ : ∀ c : Dev nD, origin 3 (left c) = origin 0 c := by decide
  have h₂ : ∀ c : Dev nD, origin 2 (right c) = origin 1 c := by decide
  have h₂' : ∀ c : Dev nD, origin 2 (left c) = origin 3 c := by decide
  obtain ⟨_ | _, b, h⟩ | ⟨_ | _, b, h⟩ := j
  exacts [h₁ c, h₃ c, h₂ c, h₂' c]

/-- A square table of 16-bit floats. -/
abbrev Table (F : FTy → Type) := S1024x1024.Idx → Elt F .bf16

/-- Head `h`'s columns of a table, as slot contents. -/
def headOf (K : Table F) (h : Fin 8) : S1x1x1024x128.Idx → Elt F .bf16 := fun i => K (at2 (i 2) (headCol h (i 3)))

/-- The full buffer of device `c`: in slot `s` the table of the device the slot is for, head by head. -/
def filled (own : Bool → Dev nD → Table F) (b : Bool) (c : Dev nD) : S4x8x1024x128.Idx → Elt F .bf16 :=
  fun i => own b (origin (i 0) c) (at2 (i 2) (headCol (i 1) (i 3)))

/-- The same as contents of the buffer itself. -/
def kvFull (own : Bool → Dev nD → Table F) (b : Bool) (c : Dev nD) : (kvRef b).view.ty.Contents (Elt F) :=
  match b with
  | false => filled own false c
  | true => filled own true c

/-- Reading slot `s`, head `h` of the full buffer. -/
theorem read_slab (own : Bool → Dev nD → Table F) (b : Bool) (c : Dev nD) (s : Fin 4) (h : Fin 8) :
    ((kvRef b).access (slab s h)).read (Elt F) (kvFull own b c) = headOf (own b (origin s c)) h := by
  have key : ∀ i : S1x1x1024x128.Idx, filled own b c ((slab s h).emb i) = headOf (own b (origin s c)) h i := by
    intro i
    have h0 : ((slab s h).emb i) 0 = s := Fin.ext (by
      show s.val + 1 * (i 0).val = s.val
      have : (i 0).val < 1 := (i 0).isLt
      omega)
    have h1 : ((slab s h).emb i) 1 = h := Fin.ext (by
      show h.val + 1 * (i 1).val = h.val
      have : (i 1).val < 1 := (i 1).isLt
      omega)
    have h2 : ((slab s h).emb i) 2 = i 2 := Fin.ext (by show 0 + 1 * (i 2).val = _; omega)
    have h3 : ((slab s h).emb i) 3 = i 3 := Fin.ext (by show 0 + 1 * (i 3).val = _; omega)
    unfold filled headOf
    rw [h0, h1, h2, h3]
  cases b
  · exact funext fun i => key i
  · exact funext fun i => key i

/-- What taking head `h` of the device's own table in stores. -/
theorem taken (K : Table F) (h : Fin 8) :
    shapeCast S1x1x1024x128 (shapeCast S1024x128 (fun i : S1024x128.Idx => K ((cols h).emb i)) shapeCasts_S1024x128_S1024x128)
      shapeCasts_S1024x128_S1x1x1024x128 = headOf K h := by
  funext i
  rw [shapeCast_self]
  have hi0 : (i 0).val < 1 := (i 0).isLt
  have hi1 : (i 1).val < 1 := (i 1).isLt
  rw [shapeCast_apply _ _ i (fun a => match a with | 0 => i 2 | 1 => i 3 : S1024x128.Idx) (by
    rw [Shape.rowMajor_val_two, Shape.rowMajor_val_four]
    show (i 2).val * 128 + (i 3).val = (((i 0).val * 1 + (i 1).val) * 1024 + (i 2).val) * 128 + (i 3).val
    omega)]
  unfold headOf
  congr 1
  funext a
  fin_cases a
  · exact Fin.ext (by show 0 + 1 * (i 2).val = (i 2).val; omega)
  · exact Fin.ext (by show 128 * h.val + 1 * (i 3).val = 128 * h.val + (i 3).val; omega)

/-! ## The pieces' elements -/

/-- The elements slot `s`, head `h` has. -/
theorem slabRef_set (b : Bool) (s : Fin 4) (h : Fin 8) : (slabRef b s h).view.set = ((kvRef b).access (slab s h)).set :=
  View.set_reshape _ _

/-- Contents written through a copy's destination are, on the destination, the contents of the full buffer there. -/
theorem copied (own : Bool → Dev nD → Table F) (j : Copy) (c : Dev nD)
    (f : (kvRef j.buf).view.ty.Contents (Elt F)) (i) (hi : i ∈ (slabRef j.buf j.dstSlot j.head).view.set) :
    (slabRef j.buf j.dstSlot j.head).view.write (Elt F) f
      ((slabRef j.buf j.srcSlot j.head).view.read (Elt F) (kvFull own j.buf c)) Finset.univ i = kvFull own j.buf (j.target c) i := by
  obtain ⟨x, -, rfl⟩ := Finset.mem_map.mp hi
  rw [View.write_emb_of_mem _ _ (Finset.mem_univ x)]
  have hs : (slabRef j.buf j.srcSlot j.head).view.read (Elt F) (kvFull own j.buf c)
      = (slabRef j.buf j.dstSlot j.head).view.read (Elt F) (kvFull own j.buf (j.target c)) := by
    funext y
    have h₁ := congrFun (read_slab own j.buf c j.srcSlot j.head) (Shape.reshapeEquiv squeezes_S1x1x1024x128_S1024x128.numel_eq y)
    have h₂ := congrFun (read_slab own j.buf (j.target c) j.dstSlot j.head) (Shape.reshapeEquiv squeezes_S1x1x1024x128_S1024x128.numel_eq y)
    rw [origin_target] at h₂
    exact h₁.trans h₂.symm
  rw [hs, View.read_apply, cast_cast, cast_eq]

/-! ## Lists of resources -/

section Lists

variable {M : Type} [URA M] {α β : Type}

theorem eq_of_entails {A B : sProp M} (h : A ⊢ B) (h' : B ⊢ A) : A = B := equiv_iff.mp ⟨h, h'⟩

/-- Two resources for every element of a list are one list of each. -/
theorem bigSepL_both (l : List α) (A B : α → sProp M) :
    bigSepL l (fun a => iprop(A a ∗ B a)) = iprop(bigSepL l A ∗ bigSepL l B) := by
  induction l with
  | nil => rw [bigSepL_nil, bigSepL_nil, bigSepL_nil]; exact (equiv_iff.mp sep_emp).symm
  | cons a l ih =>
    rw [bigSepL_cons', bigSepL_cons', bigSepL_cons', ih]
    refine eq_of_entails ?_ ?_
    · iintro ⟨⟨Ha, Hb⟩, Hl, Hm⟩
      isplitl [Ha Hl]
      · isplitl [Ha]; · iexact Ha
        iexact Hl
      · isplitl [Hb]; · iexact Hb
        iexact Hm
    · iintro ⟨⟨Ha, Hl⟩, Hb, Hm⟩
      isplitl [Ha Hb]
      · isplitl [Ha]; · iexact Ha
        iexact Hb
      · isplitl [Hl]; · iexact Hl
        iexact Hm

theorem bigSepL_flatMap (f : α → List β) (l : List α) (A : β → sProp M) :
    bigSepL (l.flatMap f) A = bigSepL l (fun a => bigSepL (f a) A) := by
  induction l with
  | nil => rfl
  | cons a l ih => rw [List.flatMap_cons, bigSepL_append, bigSepL_cons', ih]

theorem heads_eq : heads = halves.map lowHead ++ halves.map highHead := by decide

/-- All heads are the low heads and the high heads. -/
theorem bigSepL_heads (A : Fin 8 → sProp M) :
    bigSepL heads A = iprop(bigSepL halves (fun i => A (lowHead i)) ∗ bigSepL halves (fun i => A (highHead i))) := by
  rw [heads_eq, bigSepL_append, bigSepL_map, bigSepL_map]

/-- The two first hops of head `h` in one direction. -/
def firstTwo (t : Bool) (h : Fin 8) : List Copy := [.first t false h, .first t true h]
/-- The two second hops of a head in one direction. -/
def secondTwo (t : Bool) (i : Fin 4) : List Copy := [.second t false i, .second t true i]

/-- The copies in the order they are started. -/
def order : List Copy :=
  heads.flatMap (firstTwo false) ++ (heads.flatMap (firstTwo true) ++ (halves.flatMap (secondTwo false) ++ halves.flatMap (secondTwo true)))

theorem order_complete (j : Copy) : j ∈ order := by
  obtain ⟨t, b, h⟩ | ⟨t, b, h⟩ := j <;> revert t b h <;> decide

theorem order_nodup : order.Nodup := by decide

instance : Fintype Copy := ⟨order.toFinset, fun j => List.mem_toFinset.mpr (order_complete j)⟩

/-- One resource for each copy, as the body goes through them. -/
def each (X : Copy → sProp M) : sProp M :=
  iprop(bigSepL heads (fun h => iprop(X (.first false false h) ∗ X (.first false true h)))
    ∗ bigSepL heads (fun h => iprop(X (.first true false h) ∗ X (.first true true h)))
    ∗ bigSepL halves (fun i => iprop(X (.second false false i) ∗ X (.second false true i)))
    ∗ bigSepL halves (fun i => iprop(X (.second true false i) ∗ X (.second true true i))))

theorem bigSep_each (X : Copy → sProp M) : bigSep Finset.univ X = each X := by
  rw [bigSep_univ_eq_bigSepL order rfl order_nodup, order, bigSepL_append, bigSepL_append, bigSepL_append,
    bigSepL_flatMap, bigSepL_flatMap, bigSepL_flatMap, bigSepL_flatMap]
  rfl

theorem each_mono {X Y : Copy → sProp M} (h : ∀ j, X j ⊢ Y j) : each X ⊢ each Y := by
  rw [← bigSep_each, ← bigSep_each]
  exact bigSep_mono fun j _ => h j

theorem each_both (X Y : Copy → sProp M) : each (fun j => iprop(X j ∗ Y j)) = iprop(each X ∗ each Y) := by
  rw [← bigSep_each, ← bigSep_each, ← bigSep_each]
  exact bigSep_sep' _ _ _

/-- The 32 slots and heads: the device's own, then those the copies fill. -/
def pieces : List (Fin 4 × Fin 8) :=
  heads.map (fun h => (0, h)) ++ (heads.map (fun h => (1, h)) ++ (heads.map (fun h => (3, h))
    ++ (halves.map (fun i => (2, lowHead i)) ++ halves.map (fun i => (2, highHead i)))))

/-- A resource for each slot and head of both buffers is one for each of the device's own heads and one for each copy's
    destination. -/
theorem pieces_each (P : Bool → Fin 4 → Fin 8 → sProp M) :
    iprop(bigSep Finset.univ (fun p : Fin 4 × Fin 8 => P false p.1 p.2) ∗ bigSep Finset.univ (fun p : Fin 4 × Fin 8 => P true p.1 p.2))
      = iprop(bigSepL heads (fun h => iprop(P false 0 h ∗ P true 0 h)) ∗ each (fun j => P j.buf j.dstSlot j.head)) := by
  have hl : ∀ b, bigSep Finset.univ (fun p : Fin 4 × Fin 8 => P b p.1 p.2)
      = iprop(bigSepL heads (P b 0) ∗ bigSepL heads (P b 1) ∗ bigSepL heads (P b 3)
        ∗ bigSepL halves (fun i => P b 2 (lowHead i)) ∗ bigSepL halves (fun i => P b 2 (highHead i))) := fun b => by
    rw [bigSep_univ_eq_bigSepL pieces (by decide) (by decide), pieces, bigSepL_append, bigSepL_append, bigSepL_append, bigSepL_append,
      bigSepL_map, bigSepL_map, bigSepL_map, bigSepL_map, bigSepL_map]
  rw [hl, hl, each, bigSepL_both, bigSepL_both, bigSepL_both, bigSepL_both, bigSepL_both]
  refine eq_of_entails ?_ ?_
  · iintro ⟨⟨A0, A1, A3, A2, A2'⟩, B0, B1, B3, B2, B2'⟩
    isplitl [A0 B0]; · isplitl [A0]; · iexact A0
                       iexact B0
    isplitl [A1 B1]; · isplitl [A1]; · iexact A1
                       iexact B1
    isplitl [A3 B3]; · isplitl [A3]; · iexact A3
                       iexact B3
    isplitl [A2 B2]; · isplitl [A2]; · iexact A2
                       iexact B2
    isplitl [A2']; · iexact A2'
    iexact B2'
  · iintro ⟨⟨A0, B0⟩, ⟨A1, B1⟩, ⟨A3, B3⟩, ⟨A2, B2⟩, A2', B2'⟩
    isplitl [A0 A1 A3 A2 A2']
    · isplitl [A0]; · iexact A0
      isplitl [A1]; · iexact A1
      isplitl [A3]; · iexact A3
      isplitl [A2]; · iexact A2
      iexact A2'
    · isplitl [B0]; · iexact B0
      isplitl [B1]; · iexact B1
      isplitl [B3]; · iexact B3
      isplitl [B2]; · iexact B2
      iexact B2'

end Lists

/-! ## Pieces of the buffers of keys and values -/

/-- Share `q` of slot `s`, head `h` of device `c`'s keys or values, at contents `f`. -/
abbrev slabPt (c : Dev nD) (b : Bool) (s : Fin 4) (h : Fin 8) (q : PosShare TreeShare)
    (f : Buf (Elt F) ((slabRef b s h).view.loc (c : Thread nD τ))) : sProp 𝕄 :=
  (slabRef b s h).view.loc (c : Thread nD τ) ↦[(slabRef b s h).view.set]{q} f

/-- Slot `s`, head `h` at some contents. -/
def someSlab (c : Dev nD) (b : Bool) (s : Fin 4) (h : Fin 8) : sProp 𝕄 := iprop(∃ f, slabPt (F := F) c b s h fullShare f)

/-- A whole buffer of keys or values at some contents. -/
def someKv (c : Dev nD) (b : Bool) : sProp 𝕄 :=
  iprop(∃ f : Buf (Elt F) ((kvRef b).view.loc (c : Thread nD τ)), (kvRef b).view.loc (c : Thread nD τ) ↦{fullShare} f)

theorem mem_slab (s : Fin 4) (h : Fin 8) (i : S4x8x1024x128.Idx) : i ∈ (slab s h).set ↔ i 0 = s ∧ i 1 = h := by
  rw [Rect.mem_set_unit]
  constructor
  · intro H
    have h0 := H 0
    have h1 := H 1
    refine ⟨Fin.ext ?_, Fin.ext ?_⟩
    · have a : s.val ≤ (i 0).val := h0.1
      have b : (i 0).val < s.val + 1 := h0.2
      show (i 0).val = s.val
      omega
    · have a : h.val ≤ (i 1).val := h1.1
      have b : (i 1).val < h.val + 1 := h1.2
      show (i 1).val = h.val
      omega
  · rintro ⟨rfl, rfl⟩ a
    fin_cases a
    · exact ⟨Nat.le_refl _, Nat.lt_succ_self _⟩
    · exact ⟨Nat.le_refl _, Nat.lt_succ_self _⟩
    · exact ⟨Nat.zero_le _, by show (i 2).val < 0 + 1024; have : (i 2).val < 1024 := (i 2).isLt; omega⟩
    · exact ⟨Nat.zero_le _, by show (i 3).val < 0 + 128; have : (i 3).val < 128 := (i 3).isLt; omega⟩

theorem slab_disjoint (p p' : Fin 4 × Fin 8) (h : p ≠ p') : Disjoint (slab p.1 p.2).set (slab p'.1 p'.2).set := by
  rw [Finset.disjoint_left]
  intro i hi hi'
  rw [mem_slab] at hi hi'
  exact h (Prod.ext (hi.1.symm.trans hi'.1) (hi.2.symm.trans hi'.2))

theorem slab_cover : Finset.univ.biUnion (fun p : Fin 4 × Fin 8 => (slab p.1 p.2).set) = Finset.univ :=
  Finset.eq_univ_of_forall fun i => Finset.mem_biUnion.mpr ⟨(i 0, i 1), Finset.mem_univ _, (mem_slab _ _ _).mpr ⟨rfl, rfl⟩⟩

theorem keySlab_set (s : Fin 4) (h : Fin 8) : (slabRef false s h).view.set = (slab s h).set :=
  (slabRef_set false s h).trans (View.set_slice_whole _ _)
theorem valueSlab_set (s : Fin 4) (h : Fin 8) : (slabRef true s h).view.set = (slab s h).set :=
  (slabRef_set true s h).trans (View.set_slice_whole _ _)

theorem slabs_some (c : Dev nD) (b : Bool) (f : Buf (Elt F) ((kvRef b).view.loc (c : Thread nD τ))) :
    iprop(bigSep Finset.univ fun p : Fin 4 × Fin 8 => slabPt (F := F) c b p.1 p.2 fullShare f)
      ⊢ iprop(bigSep Finset.univ fun p : Fin 4 × Fin 8 => someSlab (F := F) c b p.1 p.2) :=
  bigSep_mono fun p _ => show slabPt (F := F) c b p.1 p.2 fullShare f ⊢ someSlab (F := F) c b p.1 p.2 by
    unfold someSlab; iintro H; iexists f; iexact H

theorem kv_split (c : Dev nD) (b : Bool) :
    someKv (F := F) c b ⊢ iprop(bigSep Finset.univ fun p : Fin 4 × Fin 8 => someSlab (F := F) c b p.1 p.2) := by
  unfold someKv
  iintro ⟨%f, H⟩
  have hs : ((kvRef b).view.loc (c : Thread nD τ) ↦{fullShare} f : sProp 𝕄)
      = bigSep Finset.univ fun p : Fin 4 × Fin 8 => slabPt (F := F) c b p.1 p.2 fullShare f := by
    cases b
    · refine (Ring.pointsTo_blocks (fun p : Fin 4 × Fin 8 => (slab p.1 p.2).set) slab_disjoint slab_cover f).trans ?_
      refine bigSep_congr fun p _ => ?_
      unfold slabPt
      rw [keySlab_set]
    · refine (Ring.pointsTo_blocks (fun p : Fin 4 × Fin 8 => (slab p.1 p.2).set) slab_disjoint slab_cover f).trans ?_
      refine bigSep_congr fun p _ => ?_
      unfold slabPt
      rw [valueSlab_set]
  ihave H := (Entails.of_eq hs) $$ H
  iapply (slabs_some c b f)
  iexact H

theorem kv_join (c : Dev nD) (b : Bool) (f₀ : Buf (Elt F) ((kvRef b).view.loc (c : Thread nD τ))) :
    iprop(bigSep Finset.univ fun p : Fin 4 × Fin 8 => someSlab (F := F) c b p.1 p.2) ⊢ someKv (F := F) c b := by
  cases b
  · refine .trans (bigSep_mono fun p _ => ?_)
      (Ring.pointsTo_blocks_join_exists (fun p : Fin 4 × Fin 8 => (slab p.1 p.2).set) slab_disjoint slab_cover f₀)
    unfold someSlab slabPt
    rw [keySlab_set]
    exact .refl _
  · refine .trans (bigSep_mono fun p _ => ?_)
      (Ring.pointsTo_blocks_join_exists (fun p : Fin 4 × Fin 8 => (slab p.1 p.2).set) slab_disjoint slab_cover f₀)
    unfold someSlab slabPt
    rw [valueSlab_set]
    exact .refl _

end Attn
-- ==== Proof.Protocol.lean ====
/- The protocol of the copies: which counts each semaphore expects, what each count hands over, what a device
   owes and in what order it may wait. -/
module

public import proofs.«01_k».proof.Proof.Slabs

@[expose] public section

set_option maxRecDepth 16384

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ UU ℕ

/-- The pipeline's rounds. -/
abbrev EP : Emb (UR sig nD τ) (MT nD τ sig Unit (Elt F) ℕ UU ℕ) := embL
/-- The protocol's rounds. -/
abbrev ER : Emb UD (MT nD τ sig Unit (Elt F) ℕ UU ℕ) := embR

/-! ## Semaphores -/

/-- The barrier. -/
abbrev barS : Sem sig := (SemArray.scalar (sig.barrier 0 rfl) : Sems sig S_).sem

abbrev barCell (c : Dev nD) : GSem nD τ sig := ((c : Thread nD τ), .reg barS)
abbrev sendCell (c : Dev nD) (j : Copy) : GSem nD τ sig := ((c : Thread nD τ), .dma j.sendSem)
abbrev recvCell (c : Dev nD) (j : Copy) : GSem nD τ sig := ((c : Thread nD τ), .dma j.recvSem)

/-- A copy's departure (`false`) or arrival (`true`). -/
abbrev Key : Type := Bool × Copy

/-- The semaphore counting it. -/
def keySem : Key → SemLoc sig
  | (false, j) => .dma j.sendSem
  | (true, j) => .dma j.recvSem

def keys : List Key := order.map (fun j => (false, j)) ++ order.map (fun j => (true, j))

theorem keys_complete (k : Key) : k ∈ keys := by
  obtain ⟨_ | _, j⟩ := k
  · exact List.mem_append_left _ (List.mem_map_of_mem (order_complete j))
  · exact List.mem_append_right _ (List.mem_map_of_mem (order_complete j))

/-- That semaphore's number. -/
def keyNum : Key → ℕ
  | (false, j) => j.sendSem.val
  | (true, j) => j.recvSem.val

/-- What a semaphore counts, if a departure or an arrival. -/
def keyOf : SemLoc sig → Option Key
  | .reg _ => none
  | .dma s => keys.find? fun k => Nat.beq (keyNum k) s.val

theorem keyOf_keySem (k : Key) : keyOf (keySem k) = some k := by
  have h : ∀ k ∈ keys, keys.find? (fun k' => Nat.beq (keyNum k') (keyNum k)) = some k := by decide +kernel
  obtain ⟨_ | _, j⟩ := k
  · exact h (false, j) (keys_complete _)
  · exact h (true, j) (keys_complete _)

theorem keyOf_send (j : Copy) : keyOf (.dma j.sendSem) = some (false, j) := keyOf_keySem (false, j)
theorem keyOf_recv (j : Copy) : keyOf (.dma j.recvSem) = some (true, j) := keyOf_keySem (true, j)

theorem keySem_inj : Function.Injective keySem := fun k k' h => by
  have := keyOf_keySem k
  rw [h, keyOf_keySem] at this
  exact (Option.some.inj this).symm

theorem keySem_ne_bar (k : Key) : keySem k ≠ .reg barS := by
  obtain ⟨_ | _, j⟩ := k <;> exact fun h => by cases h

/-- What one copy of a head's keys or values counts. -/
def credit (b : Bool) : ℕ := (slabRef b 0 0).view.dmaCredit

theorem credit_pos (b : Bool) : 0 < credit b := View.dmaCredit_pos _ (by decide)

/-! ## What is handed over -/

/-- The share of its source a copy holds while under way. -/
def copyShare : Copy → PosShare TreeShare
  | .first false _ _ => fullShare.right.left
  | .first true _ _ => fullShare.right.right
  | .second _ _ _ => fullShare.right

/-- One resource for each copy in one direction. -/
def half {M : Type} [URA M] (t : Bool) (X : Copy → sProp M) : sProp M :=
  iprop(bigSepL heads (fun h => iprop(X (.first t false h) ∗ X (.first t true h)))
    ∗ bigSepL halves (fun i => iprop(X (.second t false i) ∗ X (.second t true i))))

/-- The place device `e` gives for copy `j` to land in. -/
def landing (e : Dev nD) (j : Copy) : sProp 𝕄 :=
  iprop(someSlab (F := F) e j.buf j.dstSlot j.head ∗ reached ER (recvCell e j) 0)

/-- A neighbour's signal: the places it gives for all copies sent its way. -/
def barPay (c : Dev nD) (t : Bool) : sProp 𝕄 := half t (landing (F := F) (if t then left c else right c))

variable (own : Bool → Dev nD → Table F)

/-- An arrival: the place filled. -/
def gotPay (c : Dev nD) (j : Copy) : sProp 𝕄 := slabPt c j.buf j.dstSlot j.head fullShare (kvFull own j.buf c)
/-- A departure: the copy's share of its source. -/
def sentPay (c : Dev nD) (j : Copy) : sProp 𝕄 := slabPt c j.buf j.srcSlot j.head (copyShare j) (kvFull own j.buf c)

/-- The protocol: one round. A barrier expects a signal from each neighbour; a departure or arrival semaphore expects its one
    copy. -/
def Rd : Rounds.Schedule (GSem nD τ sig) Bool 𝕄 where
  duties g r := if r = 0 ∧ g.1.2 = .tc then (if g.2 = .reg barS then {false, true} else if (keyOf g.2).isSome then {false} else ∅) else ∅
  unitless _ := False
  amount g _ _ := if g.2 = .reg barS then 1 else match keyOf g.2 with
    | some (_, j) => credit j.buf
    | none => 1
  payload g _ t := if g.2 = .reg barS then barPay g.1.1 t else match keyOf g.2 with
    | some (false, j) => sentPay own g.1.1 j
    | some (true, j) => gotPay own g.1.1 j
    | none => iprop(emp)
  amount_pos g _ _ _ := by
    by_cases h : g.2 = .reg barS
    · rw [if_pos h]; exact Nat.one_pos
    · rw [if_neg h]
      cases keyOf g.2 with
      | none => exact Nat.one_pos
      | some k => exact credit_pos _

instance bigSepL_storable {α : Type} (l : List α) (X : α → sProp 𝕄) [∀ a, BI.Storable (upEmb : UEmb _ 𝕄) (X a)] :
    BI.Storable (upEmb : UEmb _ 𝕄) (bigSepL l X) := by
  induction l with
  | nil => exact (inferInstance : BI.Storable (upEmb : UEmb _ 𝕄) iprop(emp))
  | cons a l ih => rw [bigSepL_cons']; infer_instance

instance landing_storable (e : Dev nD) (j : Copy) : BI.Storable (upEmb : UEmb _ 𝕄) (landing (F := F) e j) := by
  unfold landing someSlab; infer_instance

instance half_storable (t : Bool) (X : Copy → sProp 𝕄) [∀ a, BI.Storable (upEmb : UEmb _ 𝕄) (X a)] :
    BI.Storable (upEmb : UEmb _ 𝕄) (half t X) := by unfold half; infer_instance

instance Rd_payload_storable (g : GSem nD τ sig) (r : ℕ) (d : Bool) :
    BI.Storable (upEmb : UEmb _ 𝕄) ((Rd own).payload g r d) := by
  dsimp only [Rd]
  unfold barPay gotPay sentPay
  split
  · infer_instance
  · split <;> infer_instance

theorem duties_bar (c : Dev nD) : (Rd own).duties (barCell c) 0 = {false, true} := by
  dsimp only [Rd]; rw [if_pos ⟨rfl, rfl⟩, if_pos rfl]
theorem duties_send (c : Dev nD) (j : Copy) : (Rd own).duties (sendCell c j) 0 = {false} := by
  dsimp only [Rd]; rw [if_pos ⟨rfl, rfl⟩, if_neg (fun h => by cases h), keyOf_send]; rfl
theorem duties_recv (c : Dev nD) (j : Copy) : (Rd own).duties (recvCell c j) 0 = {false} := by
  dsimp only [Rd]; rw [if_pos ⟨rfl, rfl⟩, if_neg (fun h => by cases h), keyOf_recv]; rfl
theorem duties_later (g : GSem nD τ sig) (r : ℕ) (hr : 1 ≤ r) : (Rd own).duties g r = ∅ := by
  dsimp only [Rd]; exact if_neg fun h => by omega

theorem amount_bar (c : Dev nD) (r : ℕ) (t : Bool) : (Rd own).amount (barCell c) r t = 1 := by
  dsimp only [Rd]; exact if_pos rfl
theorem amount_send (c : Dev nD) (j : Copy) (r : ℕ) (t : Bool) : (Rd own).amount (sendCell c j) r t = credit j.buf := by
  dsimp only [Rd]; rw [if_neg (fun h => by cases h), keyOf_send]
theorem amount_recv (c : Dev nD) (j : Copy) (r : ℕ) (t : Bool) : (Rd own).amount (recvCell c j) r t = credit j.buf := by
  dsimp only [Rd]; rw [if_neg (fun h => by cases h), keyOf_recv]

theorem expect_bar (c : Dev nD) : (Rd own).expect (barCell c) 0 = 2 := by
  unfold Schedule.expect Schedule.amountOf
  rw [duties_bar, Finset.sum_pair (by decide), amount_bar, amount_bar]
theorem expect_send (c : Dev nD) (j : Copy) : (Rd own).expect (sendCell c j) 0 = credit j.buf := by
  unfold Schedule.expect Schedule.amountOf; rw [duties_send, Finset.sum_singleton, amount_send]
theorem expect_recv (c : Dev nD) (j : Copy) : (Rd own).expect (recvCell c j) 0 = credit j.buf := by
  unfold Schedule.expect Schedule.amountOf; rw [duties_recv, Finset.sum_singleton, amount_recv]

theorem payload_bar (c : Dev nD) (r : ℕ) (t : Bool) : (Rd own).payload (barCell c) r t = barPay c t := by
  dsimp only [Rd]; exact if_pos rfl
theorem payload_send (c : Dev nD) (j : Copy) (r : ℕ) (t : Bool) : (Rd own).payload (sendCell c j) r t = sentPay own c j := by
  dsimp only [Rd]; rw [if_neg (fun h => by cases h), keyOf_send]
theorem payload_recv (c : Dev nD) (j : Copy) (r : ℕ) (t : Bool) : (Rd own).payload (recvCell c j) r t = gotPay own c j := by
  dsimp only [Rd]; rw [if_neg (fun h => by cases h), keyOf_recv]

theorem rest_bar (c : Dev nD) : bigSep ((Rd own).duties (barCell c) 0 \ ∅) (fun t => (Rd own).payload (barCell c) 0 t)
    = iprop(barPay (F := F) c false ∗ barPay (F := F) c true) := by
  rw [Finset.sdiff_empty, duties_bar, bigSep_insert (by decide), bigSep_singleton, payload_bar, payload_bar]; rfl
theorem rest_send (c : Dev nD) (j : Copy) :
    bigSep ((Rd own).duties (sendCell c j) 0 \ ∅) (fun t => (Rd own).payload (sendCell c j) 0 t) = sentPay own c j := by
  rw [Finset.sdiff_empty, duties_send, bigSep_singleton, payload_send]
theorem rest_recv (c : Dev nD) (j : Copy) :
    bigSep ((Rd own).duties (recvCell c j) 0 \ ∅) (fun t => (Rd own).payload (recvCell c j) 0 t) = gotPay own c j := by
  rw [Finset.sdiff_empty, duties_recv, bigSep_singleton, payload_recv]

/-! ## What is owed, and the levels -/

/-- The arrivals device `c` owes while the copies of `l` are still to be started. -/
def owed (c : Dev nD) : List Copy → CellTallies nD τ sig Unit
  | [] => 0
  | j :: l => owed c l + tallyAt (recvCell (j.target c) j) () (credit j.buf)

/-- What device `c` owes at its first step: all arrivals and a signal to each neighbour. -/
def O₀ (c : Dev nD) : CellTallies nD τ sig Unit :=
  owed c order + tallyAt (barCell (right c)) () 1 + tallyAt (barCell (left c)) () 1

/-- A copy's hop: first hops at 2, second hops at 3. -/
def hop : Copy → ℕ
  | .first _ _ _ => 2
  | .second _ _ _ => 3

def L (g : GSem nD τ sig) : Finset Unit := if g.1.2 = .tc then {()} else ∅
/-- The barrier comes first, then the first hops' arrivals, then the second hops'. -/
def lv (g : GSem nD τ sig) (_ : Unit) : ℕ := if g.2 = .reg barS then 1 else match keyOf g.2 with
  | some (true, j) => hop j
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (j : Copy) : lv (recvCell c j) () = hop j := by
  unfold lv; rw [if_neg (fun h => by cases h), keyOf_recv]
theorem lv_send (c : Dev nD) (j : Copy) : lv (sendCell c j) () = 0 := by
  unfold lv; rw [if_neg (fun h => by cases h), keyOf_send]

theorem owed_pos (c : Dev nD) (l : List Copy) (g : GSem nD τ sig) (u : Unit) (h : 0 < owed c l g u) :
    ∃ j ∈ l, g = recvCell (j.target c) j := by
  induction l with
  | nil => exact absurd h (Nat.lt_irrefl 0)
  | cons j l ih =>
    by_cases hg : g = recvCell (j.target c) j ∧ u = ()
    · exact ⟨j, List.mem_cons_self, hg.1⟩
    · have h' : 0 < owed c l g u + tallyAt (recvCell (j.target c) j) () (credit j.buf) g u := h
      rw [tallyAt_apply, if_neg hg] at h'
      obtain ⟨j', hj', e⟩ := ih h'
      exact ⟨j', List.mem_cons_of_mem _ hj', e⟩

/-- A device may wait on a semaphore below everything it owes. -/
theorem mayWait_owed (c : Dev nD) (sm : SemLoc sig) (l : List Copy) (n : ℕ) (hsm : lv ((c : Thread nD τ), sm) () ≤ n)
    (hl : ∀ j ∈ l, n < hop j) : (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by obtain ⟨j, _, rfl⟩ := owed_pos c l g u hg; rw [L_tc]; exact Finset.mem_singleton_self _)
    (fun p hp => by rw [Finset.mem_singleton.mp hp]; exact hsm)
    (fun g u hg => by obtain ⟨j, hj, rfl⟩ := owed_pos c l g u hg; rw [lv_recv]; exact hl j hj)

/-! ## The cells' invariants -/

def barCells : Finset (GSem nD τ sig) := Finset.univ.image barCell
def keyCell (p : Dev nD × Key) : GSem nD τ sig := ((p.1 : Thread nD τ), keySem p.2)
def keyCells : Finset (GSem nD τ sig) := Finset.univ.image keyCell

/-- What every device knows: each cell's invariant, and that each barrier's round has begun. -/
def records (κ : GSem nD τ sig → ℕ) : sProp 𝕄 :=
  iprop(bigSep (barCells ∪ keyCells) (fun g => cellInv ER (Rd own) (κ g) g) ∗ bigSep barCells (fun g => reached ER g 0))

instance records_persistent (κ : GSem nD τ sig → ℕ) : BI.Persistent (records own κ) := by unfold records; infer_instance

theorem mem_barCells (c : Dev nD) : barCell c ∈ barCells := Finset.mem_image_of_mem _ (Finset.mem_univ c)
theorem mem_sendCells (c : Dev nD) (j : Copy) : sendCell c j ∈ keyCells :=
  Finset.mem_image.mpr ⟨(c, (false, j)), Finset.mem_univ _, rfl⟩
theorem mem_recvCells (c : Dev nD) (j : Copy) : recvCell c j ∈ keyCells :=
  Finset.mem_image.mpr ⟨(c, (true, j)), Finset.mem_univ _, rfl⟩

theorem one_of {M : Type} [URA M] {I : Type} [DecidableEq I] {s : Finset I} {i : I} (hi : i ∈ s) {Φ : I → sProp M} :
    iprop(bigSep s Φ) ⊢ Φ i := bigSep_elim hi

theorem records_inv (κ : GSem nD τ sig → ℕ) (g : GSem nD τ sig) (hg : g ∈ barCells ∪ keyCells) :
    records own κ ⊢ cellInv ER (Rd own) (κ g) g := by
  unfold records
  iintro ⟨H, -⟩
  ihave H := (one_of hg) $$ H
  iexact H

theorem records_bar (κ : GSem nD τ sig → ℕ) (c : Dev nD) :
    records own κ ⊢ iprop(cellInv ER (Rd own) (κ (barCell c)) (barCell c) ∗ reached ER (barCell c) 0) := by
  iintro #H
  isplitl
  · iapply (records_inv own κ _ (Finset.mem_union_left _ (mem_barCells c))); iexact H
  · unfold records
    icases H with ⟨-, H⟩
    ihave H := (one_of (mem_barCells c)) $$ H
    iexact H

theorem records_send (κ : GSem nD τ sig → ℕ) (c : Dev nD) (j : Copy) :
    records own κ ⊢ cellInv ER (Rd own) (κ (sendCell c j)) (sendCell c j) :=
  records_inv own κ _ (Finset.mem_union_right _ (mem_sendCells c j))

theorem records_recv (κ : GSem nD τ sig → ℕ) (c : Dev nD) (j : Copy) :
    records own κ ⊢ cellInv ER (Rd own) (κ (recvCell c j)) (recvCell c j) :=
  records_inv own κ _ (Finset.mem_union_right _ (mem_recvCells c j))

end Attn
-- ==== Proof.Steps.lean ====
/- What each block that signals, waits or copies does to what a device holds. -/
module

public import proofs.«01_k».proof.Proof.Protocol

@[expose] public section

set_option maxRecDepth 16384

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ UU ℕ

/-- What is to hold at a body's end. -/
abbrev Post (F : FTy → Type) := PUnit.{1} → sProp (MT nD τ sig Unit (Elt F) ℕ UU ℕ)

/-- No variants are declared. -/
abbrev 𝒱₀ : Variants := Variants.none

/-- What running `p` at device `c` needs for `Q` to hold at its end. -/
abbrev Run (D : Defs nD τ sig (Elt F) Λ₀) (c : Dev nD) (p : Body F) (Q : Post F) : sProp 𝕄 :=
  wp frame (wpE D 𝒱₀ (c : Thread nD τ) none) Set.univ p Q

variable {D : Defs nD τ sig (Elt F) Λ₀} (c : Dev nD) {Q : Post F}

/-- A loop: each element takes its own resource `A` to `B`, and the shared one along the list. -/
theorem run_loop {α : Type} (f : α → Body F → Body F) (A B : α → sProp 𝕄) (I : List α → sProp 𝕄)
    (step : ∀ a l k, iprop(A a ∗ I (a :: l)) ⊢ iprop((iprop(B a ∗ I l) -∗ Run D c k Q) -∗ Run D c (f a k) Q))
    (l : List α) (k : Body F) :
    iprop(bigSepL l A ∗ I l) ⊢ iprop((iprop(bigSepL l B ∗ I []) -∗ Run D c k Q) -∗ Run D c (loop f l k) Q) := by
  induction l with
  | nil =>
    iintro ⟨HA, HI⟩ Hk
    iapply Hk
    isplitl [HA]
    · iexact HA
    · iexact HI
  | cons a l ih =>
    rw [bigSepL_cons', bigSepL_cons']
    iintro ⟨⟨Ha, HA⟩, HI⟩ Hk
    iapply (step a l (loop f l k)) $$ [Ha HI]
    · isplitl [Ha] <;> iassumption
    iintro ⟨Hb, HI⟩
    iapply ih $$ [HA HI]
    · isplitl [HA] <;> iassumption
    iintro ⟨HB, HI⟩
    iapply Hk
    isplitl [Hb HB]
    · isplitl [Hb] <;> iassumption
    · iexact HI

/-- A loop that changes nothing shared. -/
theorem run_loop_keep {α : Type} (f : α → Body F → Body F) (A B : α → sProp 𝕄) (I : sProp 𝕄)
    (step : ∀ a k, iprop(A a ∗ I) ⊢ iprop((iprop(B a ∗ I) -∗ Run D c k Q) -∗ Run D c (f a k) Q))
    (l : List α) (k : Body F) :
    iprop(bigSepL l A ∗ I) ⊢ iprop((iprop(bigSepL l B ∗ I) -∗ Run D c k Q) -∗ Run D c (loop f l k) Q) :=
  run_loop c f A B (fun _ => I) (fun a _ k => step a k) l k

variable (own : Bool → Dev nD → Table F) (κ : GSem nD τ sig → ℕ)

/-- What device `c` owes while the copies of `l` are still to be started. -/
def owing (l : List Copy) : sProp 𝕄 := iprop(∃ W, owes (c : Thread nD τ) (owed c l) W)

/-- What starting copy `j` needs besides its source. -/
def going (j : Copy) : sProp 𝕄 :=
  iprop(dutyTok ER (sendCell c j) 0 false ∗ reached ER (sendCell c j) 0 ∗ dutyTok ER (recvCell (j.target c) j) 0 false
    ∗ landing (F := F) (j.target c) j)

/-- A copy under way: its departure can be awaited. -/
def leaving (j : Copy) : sProp 𝕄 := cred (tallyAt (sendCell c j) () (credit j.buf))

theorem startCopy_step (j : Copy) (l : List Copy) (k : Body F) :
    iprop(records own κ ∗ going c j ∗ sentPay own c j ∗ owing c (j :: l))
      ⊢ iprop((iprop(leaving c j ∗ owing c l) -∗ Run D c k Q) -∗ Run D c (startCopy c j k) Q) := by
  unfold going landing someSlab owing leaving startCopy
  iintro ⟨#HR, ⟨Hds, #Hrs, Hdr, ⟨%f, Hland⟩, #Hrr⟩, Hsrc, ⟨%W, HO⟩⟩ Hk
  unfold sentPay
  iapply (Rounds.wp_send_pointsTo 𝒱₀ ER (Rd own) (c : Thread nD τ) none (c' := (j.target c : Thread nD τ))
      (src := slabRef j.buf j.srcSlot j.head) (dst := slabRef j.buf j.dstSlot j.head)
      (sS := .dma j.sendSem) (sem := .dma j.recvSem) (q := copyShare j) (fs := kvFull own j.buf c)
      (κ₁ := κ (sendCell c j)) (κ₂ := κ (recvCell (j.target c) j))
      (r₁ := 0) (r₂ := 0) (d₁ := false) (d₂ := false) (fd := f)
      (by rw [duties_send]; exact Finset.mem_singleton_self _) (by rw [duties_recv]; exact Finset.mem_singleton_self _)
      () () (credit j.buf) rfl (amount_send own c j 0 false) (amount_recv own (j.target c) j 0 false) (owed c l) rfl (W := W)
      (by rw [payload_send]; exact BI.Entails.refl _)
      (by
        rw [payload_recv]
        unfold gotPay slabPt
        rw [pointsTo_congr (copied own j c f)])) $$ [Hsrc Hland HO Hds Hdr]
  · isplitr; · iapply (records_send own κ c j); iexact HR
    isplitr; · iapply (records_recv own κ (j.target c) j); iexact HR
    isplitl [Hsrc]; · iexact Hsrc
    isplitl [Hland]; · iexact Hland
    isplitl [HO]; · iexact HO
    isplitl [Hds]; · iexact Hds
    isplitr; · iexact Hrs
    isplitl [Hdr]; · iexact Hdr
    iexact Hrr
  iintro ⟨Hc, HO⟩
  iapply Hk
  isplitl [Hc]; · iexact Hc
  iexists W
  iexact HO

/-- What awaiting the arrival of copy `j` needs. -/
def arriving (j : Copy) : sProp 𝕄 :=
  iprop(atPos ER (recvCell c j) 0 ∅ 0 ∗ cred (tallyAt (recvCell c j) () (credit j.buf)))

theorem awaitCopy_step (j : Copy) (l : List Copy) (hl : ∀ j' ∈ l, hop j < hop j') (k : Body F) :
    iprop(records own κ ∗ levAts L lv ∗ arriving c j ∗ owing c l)
      ⊢ iprop((iprop(atPos ER (recvCell c j) (0 + 1) ∅ 0 ∗ gotPay own c j ∗ owing c l) -∗ Run D c k Q) -∗ Run D c (awaitCopy j k) Q) := by
  unfold arriving owing awaitCopy
  iintro ⟨#HR, #HL, ⟨Hat, Hcr⟩, ⟨%W, HO⟩⟩ Hk
  iapply (Rounds.wp_wait_rest_token 𝒱₀ ER (Rd own) (c : Thread nD τ) none (κ := κ (recvCell c j))
      (wpE_waitDma2_eq 𝒱₀ (c : Thread nD τ) none Set.univ (src := slabRef j.buf j.srcSlot j.head) (dst := slabRef j.buf j.dstSlot j.head)
        (hsrc := slabRef_words _ _ _) (hdst := slabRef_words _ _ _))
      (Set.mem_univ _) () (O := owed c l) (W := W) (R := 0) (m := 0) (T := ∅)
      ((Nat.zero_add _).trans (expect_recv own c j).symm)) $$ [Hcr HO Hat]
  · isplitr; · iapply (records_recv own κ c j); iexact HR
    isplitl [Hcr]; · iexact Hcr
    isplitl [HO]; · iexact HO
    isplitr
    · iapply (mayWait_owed c (.dma j.recvSem) l (hop j) (Nat.le_of_eq (lv_recv c j)) hl); iexact HL
    iexact Hat
  iintro ⟨HO, Hat, -, Hpay⟩
  ihave Hpay := (Entails.of_eq (rest_recv own c j)) $$ Hpay
  iapply Hk
  isplitl [Hat]; · iexact Hat
  isplitl [Hpay]; · iexact Hpay
  iexists _
  iexact HO

theorem awaitSent_step (j : Copy) (k : Body F) :
    iprop(records own κ ∗ (atPos ER (sendCell c j) 0 ∅ 0 ∗ leaving c j) ∗ owing c [])
      ⊢ iprop((iprop(atPos ER (sendCell c j) (0 + 1) ∅ 0 ∗ sentPay own c j ∗ owing c []) -∗ Run D c k Q) -∗ Run D c (awaitSent j k) Q) := by
  unfold leaving owing awaitSent
  iintro ⟨#HR, ⟨Hat, Hcr⟩, ⟨%W, HO⟩⟩ Hk
  iapply (Rounds.wp_wait_rest_token 𝒱₀ ER (Rd own) (c : Thread nD τ) none (κ := κ (sendCell c j))
      (wpE_waitDma2_eq 𝒱₀ (c : Thread nD τ) none Set.univ (src := slabRef j.buf j.dstSlot j.head) (dst := slabRef j.buf j.srcSlot j.head)
        (hsrc := slabRef_words _ _ _) (hdst := slabRef_words _ _ _))
      (Set.mem_univ _) () (O := owed c []) (W := W) (R := 0) (m := 0) (T := ∅)
      ((Nat.zero_add _).trans (expect_send own c j).symm)) $$ [Hcr HO Hat]
  · isplitr; · iapply (records_send own κ c j); iexact HR
    isplitl [Hcr]; · iexact Hcr
    isplitl [HO]; · iexact HO
    isplitr
    · rw [show owed c [] = 0 from rfl, MayWait_zero]; iempintro
    iexact Hat
  iintro ⟨HO, Hat, -, Hpay⟩
  ihave Hpay := (Entails.of_eq (rest_send own c j)) $$ Hpay
  iapply Hk
  isplitl [Hat]; · iexact Hat
  isplitl [Hpay]; · iexact Hpay
  iexists _
  iexact HO

/-- A signal to neighbour `e`, with the places for its copies this way. -/
theorem signalBarrier_step (e : Dev nD) (t : Bool) (O : CellTallies nD τ sig Unit) (W : Waits sig Unit) (k : Body F) :
    iprop(records own κ ∗ dutyTok ER (barCell e) 0 t ∗ barPay e t ∗ owes (c : Thread nD τ) (O + tallyAt (barCell e) () 1) W)
      ⊢ iprop((owes (c : Thread nD τ) O W -∗ Run D c k Q) -∗ Run D c (signalBarrier e k) Q) := by
  unfold signalBarrier
  iintro ⟨#HR, Hd, Hpay, HO⟩ Hk
  ihave #HB := (records_bar own κ e) $$ HR
  icases HB with ⟨#HI, #Hr⟩
  iapply (Rounds.wp_signal 𝒱₀ ER (Rd own) (c : Thread nD τ) none (dst := (e : Thread nD τ)) (sem := barS) (r := 0) (d := t) (κ := κ (barCell e))
      (by rw [duties_bar]; cases t <;> decide) (amount_bar own e 0 t) () O rfl) $$ [HO Hd Hpay]
  · isplitr; · iexact HI
    isplitl [HO]; · iexact HO
    isplitl [Hd]; · iexact Hd
    isplitl [Hpay]; · rw [payload_bar]; iexact Hpay
    iexact Hr
  iintro HO
  iapply Hk
  iexact HO

/-- Both neighbours' signals: the places for all copies. -/
theorem awaitBarrier_step (W : Waits sig Unit) (k : Body F) :
    iprop(records own κ ∗ levAts L lv ∗ atPos ER (barCell c) 0 ∅ 0 ∗ cred (tallyAt (barCell c) () 2) ∗ owes (c : Thread nD τ) (owed c order) W)
      ⊢ iprop((iprop(atPos ER (barCell c) (0 + 1) ∅ 0 ∗ each (fun j => landing (F := F) (j.target c) j) ∗ owing c order) -∗ Run D c k Q)
        -∗ Run D c (awaitBarrier k) Q) := by
  unfold awaitBarrier
  iintro ⟨#HR, #HL, Hat, Hcr, HO⟩ Hk
  ihave #HB := (records_bar own κ c) $$ HR
  icases HB with ⟨#HI, -⟩
  iapply (Rounds.wp_wait_rest_token 𝒱₀ ER (Rd own) (c : Thread nD τ) none (κ := κ (barCell c))
      (wpE_semWait_eq 𝒱₀ (c : Thread nD τ) none Set.univ) (Set.mem_univ _) () (O := owed c order) (W := W) (R := 0) (m := 0) (T := ∅)
      ((Nat.zero_add 2).trans (expect_bar own c).symm)) $$ [Hcr HO Hat]
  · isplitr; · iexact HI
    isplitl [Hcr]; · iexact Hcr
    isplitl [HO]; · iexact HO
    isplitr
    · iapply (mayWait_owed c (.reg barS) order 1 (Nat.le_of_eq (lv_bar c)) (fun j _ => by cases j <;> simp [hop])); iexact HL
    iexact Hat
  iintro ⟨HO, Hat, -, Hpay⟩
  ihave Hpay := (Entails.of_eq (rest_bar own c)) $$ Hpay
  unfold barPay half
  icases Hpay with ⟨⟨H1, H2⟩, H3, H4⟩
  iapply Hk
  isplitl [Hat]; · iexact Hat
  isplitl [H1 H2 H3 H4]
  · unfold each
    isplitl [H1]; · iexact H1
    isplitl [H3]; · iexact H3
    isplitl [H2]; · iexact H2
    iexact H4
  unfold owing
  iexists _
  iexact HO

end Attn
-- ==== Proof.Blocks.lean ====
/- What each computing block does to the buffers, and the values it leaves. -/
module

public import proofs.«01_k».proof.Proof.Steps

@[expose] public section

set_option maxRecDepth 16384

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ UU ℕ

variable {D : Defs nD τ sig (Elt F) Λ₀} (c : Dev nD) {Q : Post F}

/-! ## Reading and writing a rectangle -/

/-- Rectangle `r` of `m` is held, and reads `v`. -/
def holds {e : EltTy} {s : Shape} (m : Memref sig .tc .vmem s e) (r : Rect s) (v : r.shape.Idx → Elt F e) : sProp 𝕄 :=
  iprop(∃ f : Buf (Elt F) ((m.access r).loc (c : Thread nD τ)), ((m.access r).loc (c : Thread nD τ) ↦[(m.access r).set]{fullShare} f)
    ∗ ⌜(m.access r).read (Elt F) f = v⌝)

section
variable {e : EltTy} {s : Shape} {m : Memref sig .tc .vmem s e} {r : Rect s}

/-- A load from what is held, whose value is known. -/
theorem load_known {hl : m.view.LoadsAt r.toLoadRect} {k : (r.shape.Idx → Elt F e) → Body F}
    {S : Finset (Idx ((m.access r).loc (c : Thread nD τ)))} {q : PosShare TreeShare} {f : Buf (Elt F) ((m.access r).loc (c : Thread nD τ))}
    {v : r.shape.Idx → Elt F e} (hS : (m.access r).set ⊆ S) (hv : (m.access r).read (Elt F) f = v) :
    iprop((m.access r).loc (c : Thread nD τ) ↦[S]{q} f)
      ⊢ iprop((((m.access r).loc (c : Thread nD τ) ↦[S]{q} f) -∗ Run D c (k v) Q) -∗ Run D c (.op (.load m r.toLoadRect hl) k) Q) := by
  subst hv
  exact wp_load_rect 𝒱₀ (c : Thread nD τ) none Set.univ hS

theorem load_holds {hl : m.view.LoadsAt r.toLoadRect} {k : (r.shape.Idx → Elt F e) → Body F} {v : r.shape.Idx → Elt F e} :
    holds c m r v ⊢ iprop((holds c m r v -∗ Run D c (k v) Q) -∗ Run D c (.op (.load m r.toLoadRect hl) k) Q) := by
  unfold holds
  iintro ⟨%f, H, %hv⟩ Hk
  iapply (load_known c (v := v) (Finset.Subset.refl _) hv) $$ H
  iintro H
  iapply Hk
  iexists f
  isplitl [H]
  · iexact H
  · ipureintro; exact hv

theorem store_holds {w : r.shape.Idx → Elt F e} {hx : (m.access r).Stores Finset.univ}
    {hm : Finset.univ = Finset.univ ∨ ∀ a, r.stride a = 1} {k : PUnit → Body F} {v : r.shape.Idx → Elt F e} :
    holds c m r v ⊢ iprop((holds c m r w -∗ Run D c (k ⟨⟩) Q) -∗ Run D c (.op (.store m r w Finset.univ hx hm) k) Q) := by
  unfold holds
  iintro ⟨%f, H, %hv⟩ Hk
  iapply (wp_store 𝒱₀ (c : Thread nD τ) none Set.univ (m := m) (r := r) (w := w) (S := (m.access r).set) (Mk := Finset.univ) (Finset.Subset.refl _)) $$ H
  iintro H
  iapply Hk
  iexists _
  isplitl [H]
  · iexact H
  · ipureintro; exact View.read_write_univ _ _
end

/-- Writing what some contents read as, gives those contents where it writes. -/
theorem write_known {κ : Kind} {sp : Space} {s : Shape} {e : EltTy} (v : View sig κ sp s e) (f g : v.ty.Contents (Elt F)) (w : s.Idx → Elt F e)
    (hg : v.read (Elt F) g = w) (i) (hi : i ∈ v.set) : v.write (Elt F) f w Finset.univ i = g i := by
  subst hg
  obtain ⟨x, -, rfl⟩ := Finset.mem_map.mp hi
  rw [View.write_emb_of_mem _ _ (Finset.mem_univ x), View.read_apply]
  simp

/-- A square buffer's own elements, as those of its one whole rectangle. -/
theorem all_emb (i : S1024x1024.Idx) : allRect.emb i = i := by
  funext a
  fin_cases a
  · exact Fin.ext (by show 0 + 1 * (i 0).val = (i 0).val; omega)
  · exact Fin.ext (by show 0 + 1 * (i 1).val = (i 1).val; omega)

theorem all_read {X : Type} (f : S1024x1024.Idx → X) : (fun i : S1024x1024.Idx => f (allRect.emb i)) = f :=
  funext fun i => congrArg f (all_emb i)

theorem all_set : (allRect : Rect S1024x1024).set = Finset.univ :=
  Finset.eq_univ_of_forall fun i => by
    rw [← Rect.map_emb_univ]
    exact Finset.mem_map.mpr ⟨i, Finset.mem_univ _, all_emb i⟩

/-- A square buffer held whole. -/
abbrev Whole (b : Ref sig .tc) (f : Buf (Elt F) ((c : Thread nD τ).loc b)) : sProp 𝕄 := (c : Thread nD τ).loc b ↦{fullShare} f

/-- Reading through one rectangle what was written through another, at an element of both. -/
theorem read_written {e : EltTy} {s : Shape} (m : Memref sig .tc .vmem s e) (r r' : Rect s) (f : (m.access r).ty.Contents (Elt F))
    (w : r'.shape.Idx → Elt F e) (i : r.shape.Idx) (x : r'.shape.Idx) (hx : r.emb i = r'.emb x) :
    (m.access r).read (Elt F) ((m.access r').write (Elt F) f w Finset.univ) i = w x := by
  have h : (m.access r).emb i = (m.access r').emb x := congrArg m.view.emb hx
  have h' := View.write_emb_of_mem (v := m.access r') f w (Finset.mem_univ x)
  rw [← h] at h'
  rw [View.read_apply, h']
  exact (cast_cast _ _ _).trans (cast_eq _ _)

/-- Reading through one rectangle what was written through another, at an element only of the first. -/
theorem read_kept {e : EltTy} {s : Shape} (m : Memref sig .tc .vmem s e) (r r' : Rect s) (f : (m.access r).ty.Contents (Elt F))
    (w : r'.shape.Idx → Elt F e) (i : r.shape.Idx) (hi : r.emb i ∉ r'.set) :
    (m.access r).read (Elt F) ((m.access r').write (Elt F) f w Finset.univ) i = (m.access r).read (Elt F) f i := by
  rw [View.read_apply, View.read_apply, View.write_of_not_mem]
  rw [View.setOn_univ]
  show m.view.emb (r.emb i) ∉ (m.view.slice r').set
  rw [View.set_slice]
  exact fun hm => hi ((Finset.mem_map' _).mp hm)

/-- Storing a whole square buffer, whose new contents are known. -/
theorem store_whole {e : EltTy} {m : Memref sig .tc .vmem S1024x1024 e} {w : S1024x1024.Idx → Elt F e}
    {hx : (m.access allRect).Stores Finset.univ} {hm : Finset.univ = Finset.univ ∨ ∀ a, (allRect : Rect S1024x1024).stride a = 1} {k : PUnit → Body F}
    {f : Buf (Elt F) ((m.access allRect).loc (c : Thread nD τ))} (g : Buf (Elt F) ((m.access allRect).loc (c : Thread nD τ)))
    (hset : (m.access allRect).set = Finset.univ) (hg : (m.access allRect).read (Elt F) g = w) :
    iprop((m.access allRect).loc (c : Thread nD τ) ↦{fullShare} f)
      ⊢ iprop((((m.access allRect).loc (c : Thread nD τ) ↦{fullShare} g) -∗ Run D c (k ⟨⟩) Q)
        -∗ Run D c (.op (.store m allRect w Finset.univ hx hm) k) Q) := by
  have h : (m.access allRect).write (Elt F) f w Finset.univ = g := funext fun i => write_known _ _ _ _ hg i (hset ▸ Finset.mem_univ i)
  iintro H Hk
  iapply (wp_store 𝒱₀ (c : Thread nD τ) none Set.univ (m := m) (r := allRect) (S := Finset.univ) (Mk := Finset.univ) (Finset.subset_univ _)) $$ H
  iintro H
  iapply Hk
  ihave H := (Entails.of_eq (congrArg (fun g => (m.access allRect).loc (c : Thread nD τ) ↦{fullShare} g) h)) $$ H
  iexact H

theorem queries_set : (qRef.access allRect).set = Finset.univ := (View.set_slice_whole cc0_scratch2 allRect).trans all_set
theorem biases_set : (biasRef.access allRect).set = Finset.univ := (View.set_slice_whole cc0_scratch3 allRect).trans all_set
theorem out_set : (outRef.access allRect).set = Finset.univ := (View.set_slice_whole cc0_stg5_0 allRect).trans all_set

/-! ## Values -/

/-- Head `h`'s columns of a table. -/
def colsOf (q : Table F) (h : Fin 8) : S1024x128.Idx → Elt F .bf16 := fun i => q ((cols h).emb i)
/-- Head `h`'s columns, the upper rows. -/
def colsLoOf (q : Table F) (h : Fin 8) : S512x128.Idx → Elt F .bf16 := fun i => q ((colsLo h).emb i)
/-- Head `h`'s columns, the lower rows. -/
def colsHiOf (q : Table F) (h : Fin 8) : S512x128.Idx → Elt F .bf16 := fun i => q ((colsHi h).emb i)
/-- Head `h`'s columns, the upper rows, as the upper rows of slot contents. -/
def headLoOf (K : Table F) (h : Fin 8) : S1x1x512x128.Idx → Elt F .bf16 :=
  fun i => K (at2 ⟨(i 2).val, Nat.lt_of_lt_of_le (i 2).isLt (by decide)⟩ (headCol h (i 3)))

/-- The diagonal weights, upper rows. -/
def wLo (mask : F .f32) (q K : Table F) (h : Fin 8) : FVec F S512x512 .bf16 :=
  weightsLo (colsLoOf q h) (headLoOf K h)
    fun i => biases mask ((Rect.unit (s := S1024x1024) ![0, 0] S512x512.size inb_S1024x1024_S512x512_0_0).emb i)
/-- The diagonal weights, lower rows. -/
def wHi (mask : F .f32) (q K : Table F) (h : Fin 8) : FVec F S512x1024 .bf16 :=
  weightsHi (colsHiOf q h) (headOf K h)
    fun i => biases mask ((Rect.unit (s := S1024x1024) ![512, 0] S512x1024.size inb_S1024x1024_S512x1024_512_0).emb i)

/-- Upper rows over lower rows, of a column. -/
def overSums (lo hi : S1x512x1.Idx → F .f32) : S1x1024x1.Idx → F .f32 := fun i =>
  if hr : (i 1).val < 512 then lo (fun a => match a with | 0 => (0 : Fin 1) | 1 => ⟨(i 1).val, hr⟩ | 2 => (0 : Fin 1))
  else hi (fun a => match a with
    | 0 => (0 : Fin 1) | 1 => ⟨(i 1).val - 512, by have : (i 1).val < 1024 := (i 1).isLt; show _ < 512; omega⟩ | 2 => (0 : Fin 1))
/-- Upper rows over lower rows, of a head's columns. -/
def overMix (lo hi : S512x128.Idx → F .f32) : S1024x128.Idx → F .f32 := fun i =>
  if hr : (i 0).val < 512 then lo (fun a => match a with | 0 => ⟨(i 0).val, hr⟩ | 1 => i 1)
  else hi (fun a => match a with
    | 0 => ⟨(i 0).val - 512, by have : (i 0).val < 1024 := (i 0).isLt; show _ < 512; omega⟩ | 1 => i 1)

/-- A head's running sums: of the weights and of the weighted values. -/
abbrev Sums (F : FTy → Type) := (S1x1024x1.Idx → F .f32) × (S1024x128.Idx → F .f32)

/-- The sums over the device's own chunk. -/
def ownSums (mask : F .f32) (q K V : Table F) (h : Fin 8) : Sums F :=
  (overSums (sumsLo (wLo mask q K h)) (sumsHi (wHi mask q K h)),
   overMix (mixLo (wLo mask q K h) (headLoOf V h)) (mixHi (wHi mask q K h) (headOf V h)))

/-- The sums with another chunk taken in. -/
def withChunk (q K V : Table F) (h : Fin 8) (P : Sums F) : Sums F :=
  (addSums P.1 (weights (colsOf q h) (headOf K h)), addMix P.2 (weights (colsOf q h) (headOf K h)) (headOf V h))

/-- A head's running sums are held. -/
def sums (h : Fin 8) (P : Sums F) : sProp 𝕄 := iprop(holds c lRef (row h) P.1 ∗ holds c accRef (cols h) P.2)

variable (own : Bool → Dev nD → Table F)

/-- The sums with the chunk of slot `s` taken in, where it is seen. -/
def seenChunk (s : Fin 4) (q : Table F) (h : Fin 8) (P : Sums F) : Sums F :=
  if seen c s then withChunk q (own false (origin s c)) (own true (origin s c)) h P else P

/-- A slot's head at what it is to hold, at a share. -/
abbrev slot (b : Bool) (s : Fin 4) (h : Fin 8) (q : PosShare TreeShare) : sProp 𝕄 := slabPt c b s h q (kvFull own b c)

/-- A load of a slot's head. -/
theorem load_slot {b : Bool} {s : Fin 4} {h : Fin 8} {hl : (kvRef b).view.LoadsAt (slab s h).toLoadRect}
    {k : (S1x1x1024x128.Idx → Elt F .bf16) → Body F} {q : PosShare TreeShare} :
    slot c own b s h q ⊢ iprop((slot c own b s h q -∗ Run D c (k (headOf (own b (origin s c)) h)) Q)
      -∗ Run D c (.op (.load (kvRef b) (slab s h).toLoadRect hl) k) Q) := by
  unfold slot slabPt
  rw [slabRef_set]
  exact load_known c (m := kvRef b) (r := slab s h) (Finset.Subset.refl _) (read_slab own b c s h)

theorem origin_own : origin 0 c = c := by revert c; decide

/-- The first rows of a slot's head, read. -/
theorem read_slabLo (b : Bool) (h : Fin 8) :
    ((kvRef b).access (slabLo 0 h)).read (Elt F) (kvFull own b c) = headLoOf (own b c) h := by
  have key : ∀ i : S1x1x512x128.Idx, filled own b c ((slabLo 0 h).emb i) = headLoOf (own b c) h i := by
    intro i
    have h0 : ((slabLo 0 h).emb i) 0 = (0 : Fin 4) := Fin.ext (by
      show 0 + 1 * (i 0).val = 0
      have : (i 0).val < 1 := (i 0).isLt
      omega)
    have h1 : ((slabLo 0 h).emb i) 1 = h := Fin.ext (by
      show h.val + 1 * (i 1).val = h.val
      have : (i 1).val < 1 := (i 1).isLt
      omega)
    have h2 : ((slabLo 0 h).emb i) 2 = ⟨(i 2).val, Nat.lt_of_lt_of_le (i 2).isLt (by decide)⟩ := Fin.ext (by show 0 + 1 * (i 2).val = (i 2).val; omega)
    have h3 : ((slabLo 0 h).emb i) 3 = i 3 := Fin.ext (by show 0 + 1 * (i 3).val = _; omega)
    unfold filled headLoOf
    rw [h0, h1, h2, h3, origin_own]
    rfl
  cases b
  · exact funext fun i => key i
  · exact funext fun i => key i

theorem slabLo_subset (b : Bool) (h : Fin 8) : ((kvRef b).access (slabLo 0 h)).set ⊆ ((kvRef b).access (slab 0 h)).set := by
  have key : (slabLo 0 h).set ⊆ (slab 0 h).set := by
    intro i hi
    rw [mem_slab]
    rw [Rect.mem_set_unit] at hi
    have h0 := hi 0
    have h1 := hi 1
    refine ⟨Fin.ext ?_, Fin.ext ?_⟩
    · have b : (i 0).val < 0 + 1 := h0.2
      show (i 0).val = 0
      omega
    · have a : h.val ≤ (i 1).val := h1.1
      have b : (i 1).val < h.val + 1 := h1.2
      show (i 1).val = h.val
      omega
  cases b
  · exact (View.set_slice_whole cc0_scratch0 (slabLo 0 h)).trans_subset (key.trans_eq (View.set_slice_whole cc0_scratch0 (slab 0 h)).symm)
  · exact (View.set_slice_whole cc0_scratch1 (slabLo 0 h)).trans_subset (key.trans_eq (View.set_slice_whole cc0_scratch1 (slab 0 h)).symm)

/-- A load of the upper rows of the device's own slot's head. -/
theorem load_slotLo {b : Bool} {h : Fin 8} {hl : (kvRef b).view.LoadsAt (slabLo 0 h).toLoadRect}
    {k : (S1x1x512x128.Idx → Elt F .bf16) → Body F} {q : PosShare TreeShare} :
    slot c own b 0 h q ⊢ iprop((slot c own b 0 h q -∗ Run D c (k (headLoOf (own b c) h)) Q)
      -∗ Run D c (.op (.load (kvRef b) (slabLo 0 h).toLoadRect hl) k) Q) := by
  unfold slot slabPt
  rw [slabRef_set]
  exact load_known c (m := kvRef b) (r := slabLo 0 h) (slabLo_subset b h) (read_slabLo c own b h)

/-! ## The blocks -/

/-- The device's own keys or values, held whole. -/
def ownAt (b : Bool) (K : Table F) : sProp 𝕄 := match b with
  | false => Whole c cc0_stg2_0 K
  | true => Whole c cc0_stg3_0 K

/-- What is written into the device's own slot is what it is to hold. -/
theorem kept (b : Bool) (h : Fin 8) (f : (kvRef b).view.ty.Contents (Elt F)) (i) (hi : i ∈ (slabRef b 0 h).view.set) :
    ((kvRef b).access (slab 0 h)).write (Elt F) f (headOf (own b c) h) Finset.univ i = kvFull own b c i := by
  rw [slabRef_set] at hi
  refine write_known (((kvRef b).access (slab 0 h))) _ _ _ ?_ i hi
  rw [read_slab, origin_own]

/-- A load of a head of the device's own keys or values. -/
theorem load_own {b : Bool} {h : Fin 8} {hl : (ownRef b).view.LoadsAt (cols h).toLoadRect}
    {k : (S1024x128.Idx → Elt F .bf16) → Body F} (K : Table F) :
    ownAt c b K ⊢ iprop((ownAt c b K -∗ Run D c (k fun i => K ((cols h).emb i)) Q)
      -∗ Run D c (.op (.load (ownRef b) (cols h).toLoadRect hl) k) Q) := by
  cases b
  · exact load_known (F := F) (D := D) (Q := Q) c (m := ownRef false) (r := cols h) (k := k) (q := fullShare) (f := K) (Finset.subset_univ _) rfl
  · exact load_known (F := F) (D := D) (Q := Q) c (m := ownRef true) (r := cols h) (k := k) (q := fullShare) (f := K) (Finset.subset_univ _) rfl

theorem takeIn_step (b : Bool) (h : Fin 8) (k : Body F) :
    iprop(someSlab (F := F) c b 0 h ∗ ownAt c b (own b c))
      ⊢ iprop((iprop(slot c own b 0 h fullShare ∗ ownAt c b (own b c)) -∗ Run D c k Q) -∗ Run D c (takeIn b h k) Q) := by
  unfold takeIn someSlab slot slabPt
  iintro ⟨⟨%f, Hs⟩, Ho⟩ Hk
  have hset := slabRef_set b 0 h
  iapply (load_own c (own b c)) $$ Ho
  iintro Ho
  iapply (load_known c (m := kvRef b) (r := slab 0 h) (S := (slabRef b 0 h).view.set) (f := f) hset.ge rfl) $$ Hs
  iintro Hs
  iapply (wp_store 𝒱₀ (c : Thread nD τ) none Set.univ (m := kvRef b) (r := slab 0 h) (S := (slabRef b 0 h).view.set) (Mk := Finset.univ) hset.ge) $$ Hs
  iintro Hs
  iapply Hk
  isplitl [Hs]
  · ihave Hs := (Entails.of_eq (pointsTo_congr (by rw [taken]; exact kept c own b h f))) $$ Hs
    iexact Hs
  · iexact Ho

/-- The queries, kept. -/
theorem makeQueries_step (qs : F .f32) (x wq : Table F) (k : Body F) :
    iprop(Whole c cc0_stg0_0 x ∗ Whole c cc0_stg1_0 wq ∗ ∃ f, Whole (F := F) c cc0_scratch2 f)
      ⊢ iprop((iprop(Whole c cc0_stg0_0 x ∗ Whole c cc0_stg1_0 wq ∗ Whole c cc0_scratch2 (queries qs x wq)) -∗ Run D c k Q)
        -∗ Run D c (makeQueries qs k) Q) := by
  unfold makeQueries
  iintro ⟨Hx, Hw, ⟨%f, Hq⟩⟩ Hk
  iapply (load_known c (m := xRef) (r := allRect) (S := Finset.univ) (f := x) (Finset.subset_univ _) (all_read x)) $$ Hx
  iintro Hx
  iapply (load_known c (m := wqRef) (r := allRect) (S := Finset.univ) (f := wq) (Finset.subset_univ _) (all_read wq)) $$ Hw
  iintro Hw
  iapply (load_known c (m := qRef) (r := allRect) (S := Finset.univ) (f := f) (Finset.subset_univ _) rfl) $$ Hq
  iintro Hq
  iapply (store_whole c (m := qRef) (queries qs x wq) queries_set (all_read (queries qs x wq))) $$ Hq
  iintro Hq
  iapply Hk
  isplitl [Hx]; · iexact Hx
  isplitl [Hw]; · iexact Hw
  iexact Hq

/-- The diagonal's mask, kept. -/
theorem makeBiases_step (mask : F .f32) (k : Body F) :
    iprop(∃ f, Whole (F := F) c cc0_scratch3 f)
      ⊢ iprop((Whole c cc0_scratch3 (biases mask) -∗ Run D c k Q) -∗ Run D c (makeBiases mask k) Q) := by
  unfold makeBiases
  iintro ⟨%f, Hq⟩ Hk
  iapply (load_known c (m := biasRef) (r := allRect) (S := Finset.univ) (f := f) (Finset.subset_univ _) rfl) $$ Hq
  iintro Hq
  iapply (store_whole c (m := biasRef) (biases mask) biases_set (all_read (biases mask))) $$ Hq
  iintro Hq
  iapply Hk
  iexact Hq

/-- The result, stored. -/
theorem project_step (ctx wo : Table F) (k : Body F) :
    iprop(Whole c cc0_scratch5 ctx ∗ Whole c cc0_stg4_0 wo ∗ ∃ f, Whole (F := F) c cc0_stg5_0 f)
      ⊢ iprop((iprop(Whole c cc0_scratch5 ctx ∗ Whole c cc0_stg4_0 wo ∗ Whole c cc0_stg5_0 (projected ctx wo)) -∗ Run D c k Q)
        -∗ Run D c (project k) Q) := by
  unfold project
  iintro ⟨Hx, Hw, ⟨%f, Hq⟩⟩ Hk
  iapply (load_known c (m := ctxRef) (r := allRect) (S := Finset.univ) (f := ctx) (Finset.subset_univ _) (all_read ctx)) $$ Hx
  iintro Hx
  iapply (load_known c (m := woRef) (r := allRect) (S := Finset.univ) (f := wo) (Finset.subset_univ _) (all_read wo)) $$ Hw
  iintro Hw
  iapply (load_known c (m := outRef) (r := allRect) (S := Finset.univ) (f := f) (Finset.subset_univ _) rfl) $$ Hq
  iintro Hq
  iapply (store_whole c (m := outRef) (projected ctx wo) out_set (all_read (projected ctx wo))) $$ Hq
  iintro Hq
  iapply Hk
  isplitl [Hx]; · iexact Hx
  isplitl [Hw]; · iexact Hw
  iexact Hq

/-- Another chunk taken into a head's sums. -/
theorem chunk_step (s : Fin 4) (h : Fin 8) (q : Table F) (p₁ p₂ : PosShare TreeShare) (P : Sums F) (k : Body F) :
    iprop((slot c own false s h p₁ ∗ slot c own true s h p₂ ∗ sums c h P) ∗ Whole c cc0_scratch2 q)
      ⊢ iprop((iprop((slot c own false s h p₁ ∗ slot c own true s h p₂
          ∗ sums c h (withChunk q (own false (origin s c)) (own true (origin s c)) h P)) ∗ Whole c cc0_scratch2 q) -∗ Run D c k Q)
        -∗ Run D c (chunk s h k) Q) := by
  unfold chunk sums withChunk
  iintro ⟨⟨HK, HV, ⟨Hl, Ha⟩⟩, Hq⟩ Hk
  iapply (load_known c (m := qRef) (r := cols h) (S := Finset.univ) (f := q) (v := colsOf q h) (Finset.subset_univ _) rfl) $$ Hq
  iintro Hq
  iapply (load_slot c own) $$ HK
  iintro HK
  iapply (load_holds c) $$ Hl
  iintro Hl
  iapply (load_holds c) $$ Hl
  iintro Hl
  iapply (store_holds c) $$ Hl
  iintro Hl
  iapply (load_holds c) $$ Ha
  iintro Ha
  iapply (load_slot c own) $$ HV
  iintro HV
  iapply (load_holds c) $$ Ha
  iintro Ha
  iapply (store_holds c) $$ Ha
  iintro Ha
  iapply Hk
  isplitr [Hq]
  · isplitl [HK]; · iexact HK
    isplitl [HV]; · iexact HV
    isplitl [Hl]; · iexact Hl
    iexact Ha
  · iexact Hq

/-- The same where the chunk is seen, and nothing where it is not. -/
theorem chunkIf_step (s : Fin 4) (h : Fin 8) (q : Table F) (p₁ p₂ : PosShare TreeShare) (P : Sums F) (k : Body F) :
    iprop((slot c own false s h p₁ ∗ slot c own true s h p₂ ∗ sums c h P) ∗ Whole c cc0_scratch2 q)
      ⊢ iprop((iprop((slot c own false s h p₁ ∗ slot c own true s h p₂
          ∗ sums c h (seenChunk c own s q h P)) ∗ Whole c cc0_scratch2 q) -∗ Run D c k Q)
        -∗ Run D c (chunkIf c s h k) Q) := by
  unfold chunkIf seenChunk
  by_cases hs : seen c s
  · simp only [if_pos hs]
    exact chunk_step c own s h q p₁ p₂ P k
  · simp only [if_neg hs]
    iintro H Hk
    iapply Hk
    iexact H

/-- A head's context. -/
theorem finish_step (h : Fin 8) (P : Sums F) (k : Body F) :
    iprop(sums c h P ∗ ∃ v, holds (F := F) c ctxRef (cols h) v)
      ⊢ iprop((iprop(sums c h P ∗ holds c ctxRef (cols h) (normalised P.2 P.1)) -∗ Run D c k Q) -∗ Run D c (finish h k) Q) := by
  unfold finish sums
  iintro ⟨⟨Hl, Ha⟩, ⟨%v, Hc⟩⟩ Hk
  iapply (load_holds c) $$ Ha
  iintro Ha
  iapply (load_holds c) $$ Hl
  iintro Hl
  iapply (load_holds c) $$ Hc
  iintro Hc
  iapply (store_holds c) $$ Hc
  iintro Hc
  iapply Hk
  isplitr [Hc]
  · isplitl [Hl]
    · iexact Hl
    · iexact Ha
  · iexact Hc

theorem rowLo_subset (h : Fin 8) : (lRef.access (rowLo h)).set ⊆ (lRef.access (row h)).set := by
  refine (View.set_slice_whole cc0_scratch6 (rowLo h)).trans_subset (subset_of_subset_of_eq ?_ (View.set_slice_whole cc0_scratch6 (row h)).symm)
  intro i hi
  rw [Rect.mem_set_unit] at hi ⊢
  intro a
  fin_cases a
  · exact hi 0
  · refine ⟨Nat.zero_le _, Nat.lt_of_lt_of_le (hi 1).2 ?_⟩
    show 0 + 512 ≤ 0 + 1024; decide
  · exact hi 2

theorem rowHi_subset (h : Fin 8) : (lRef.access (rowHi h)).set ⊆ (lRef.access (row h)).set := by
  refine (View.set_slice_whole cc0_scratch6 (rowHi h)).trans_subset (subset_of_subset_of_eq ?_ (View.set_slice_whole cc0_scratch6 (row h)).symm)
  intro i hi
  rw [Rect.mem_set_unit] at hi ⊢
  intro a
  fin_cases a
  · exact hi 0
  · exact ⟨Nat.zero_le _, by show _ < 0 + 1024; have : (i 1).val < 512 + 512 := (hi 1).2; exact this⟩
  · exact hi 2

/-- The two halves, written one after the other, read together. -/
theorem read_overSums (h : Fin 8) (f : (lRef.access (row h)).ty.Contents (Elt F)) (lo hi : S1x512x1.Idx → F .f32) :
    (lRef.access (row h)).read (Elt F)
      ((lRef.access (rowHi h)).write (Elt F) ((lRef.access (rowLo h)).write (Elt F) f lo Finset.univ) hi Finset.univ) = overSums lo hi := by
  funext i
  have h1 : (i 1).val < 1024 := (i 1).isLt
  have h0 : (i 0).val < 1 := (i 0).isLt
  have h2 : (i 2).val < 1 := (i 2).isLt
  unfold overSums
  by_cases hr : (i 1).val < 512
  · rw [dif_pos hr, read_kept]
    · have e : (row h).emb i = (rowLo h).emb (fun a => match a with | 0 => (0 : Fin 1) | 1 => ⟨(i 1).val, hr⟩ | 2 => (0 : Fin 1) : S1x512x1.Idx) := by
        funext a
        fin_cases a
        · exact Fin.ext (by show h.val + 1 * (i 0).val = h.val + 1 * 0; omega)
        · exact Fin.ext (by show 0 + 1 * (i 1).val = 0 + 1 * (i 1).val; omega)
        · exact Fin.ext (by show 0 + 1 * (i 2).val = 0 + 1 * 0; omega)
      exact read_written lRef (row h) (rowLo h) f lo i (fun a => match a with | 0 => (0 : Fin 1) | 1 => ⟨(i 1).val, hr⟩ | 2 => (0 : Fin 1) : S1x512x1.Idx) e
    · rw [Rect.mem_set_unit]
      intro hm
      have : 512 ≤ 0 + 1 * (i 1).val := (hm 1).1
      omega
  · rw [dif_neg hr]
    have e : (row h).emb i = (rowHi h).emb (fun a => match a with | 0 => (0 : Fin 1) | 1 => ⟨(i 1).val - 512, by show _ < 512; omega⟩ | 2 => (0 : Fin 1) : S1x512x1.Idx) := by
      funext a
      fin_cases a
      · exact Fin.ext (by show h.val + 1 * (i 0).val = h.val + 1 * 0; omega)
      · exact Fin.ext (by show 0 + 1 * (i 1).val = 512 + 1 * ((i 1).val - 512); omega)
      · exact Fin.ext (by show 0 + 1 * (i 2).val = 0 + 1 * 0; omega)
    exact read_written lRef (row h) (rowHi h) _ hi i (fun a => match a with | 0 => (0 : Fin 1) | 1 => ⟨(i 1).val - 512, by show _ < 512; omega⟩ | 2 => (0 : Fin 1) : S1x512x1.Idx) e

theorem colsLo_subset (h : Fin 8) : (accRef.access (colsLo h)).set ⊆ (accRef.access (cols h)).set := by
  refine (View.set_slice_whole cc0_scratch4 (colsLo h)).trans_subset (subset_of_subset_of_eq ?_ (View.set_slice_whole cc0_scratch4 (cols h)).symm)
  intro i hi
  rw [Rect.mem_set_unit] at hi ⊢
  intro a
  fin_cases a
  · refine ⟨Nat.zero_le _, Nat.lt_of_lt_of_le (hi 0).2 ?_⟩
    show 0 + 512 ≤ 0 + 1024; decide
  · exact hi 1

theorem colsHi_subset (h : Fin 8) : (accRef.access (colsHi h)).set ⊆ (accRef.access (cols h)).set := by
  refine (View.set_slice_whole cc0_scratch4 (colsHi h)).trans_subset (subset_of_subset_of_eq ?_ (View.set_slice_whole cc0_scratch4 (cols h)).symm)
  intro i hi
  rw [Rect.mem_set_unit] at hi ⊢
  intro a
  fin_cases a
  · exact ⟨Nat.zero_le _, by show _ < 0 + 1024; have : (i 0).val < 512 + 512 := (hi 0).2; exact this⟩
  · exact hi 1

/-- The two halves, written one after the other, read together. -/
theorem read_overMix (h : Fin 8) (f : (accRef.access (cols h)).ty.Contents (Elt F)) (lo hi : S512x128.Idx → F .f32) :
    (accRef.access (cols h)).read (Elt F)
      ((accRef.access (colsHi h)).write (Elt F) ((accRef.access (colsLo h)).write (Elt F) f lo Finset.univ) hi Finset.univ) = overMix lo hi := by
  funext i
  have h1 : (i 0).val < 1024 := (i 0).isLt
  unfold overMix
  by_cases hr : (i 0).val < 512
  · rw [dif_pos hr, read_kept]
    · have e : (cols h).emb i = (colsLo h).emb (fun a => match a with | 0 => ⟨(i 0).val, hr⟩ | 1 => i 1 : S512x128.Idx) := by
        funext a
        fin_cases a
        · exact Fin.ext (by show 0 + 1 * (i 0).val = 0 + 1 * (i 0).val; omega)
        · exact Fin.ext (by show 128 * h.val + 1 * (i 1).val = 128 * h.val + 1 * (i 1).val; omega)
      exact read_written accRef (cols h) (colsLo h) f lo i (fun a => match a with | 0 => ⟨(i 0).val, hr⟩ | 1 => i 1 : S512x128.Idx) e
    · rw [Rect.mem_set_unit]
      intro hm
      have : 512 ≤ 0 + 1 * (i 0).val := (hm 0).1
      omega
  · rw [dif_neg hr]
    have e : (cols h).emb i = (colsHi h).emb (fun a => match a with | 0 => ⟨(i 0).val - 512, by show _ < 512; omega⟩ | 1 => i 1 : S512x128.Idx) := by
      funext a
      fin_cases a
      · exact Fin.ext (by show 0 + 1 * (i 0).val = 512 + 1 * ((i 0).val - 512); omega)
      · exact Fin.ext (by show 128 * h.val + 1 * (i 1).val = 128 * h.val + 1 * (i 1).val; omega)
    exact read_written accRef (cols h) (colsHi h) _ hi i (fun a => match a with | 0 => ⟨(i 0).val - 512, by show _ < 512; omega⟩ | 1 => i 1 : S512x128.Idx) e

/-- A head against the device's own chunk. -/
theorem diagonal_step (mask : F .f32) (h : Fin 8) (q : Table F) (p₁ p₂ : PosShare TreeShare) (k : Body F) :
    iprop((slot c own false 0 h p₁ ∗ slot c own true 0 h p₂ ∗ (∃ v, holds (F := F) c lRef (row h) v) ∗ ∃ v, holds (F := F) c accRef (cols h) v)
        ∗ Whole c cc0_scratch2 q ∗ Whole c cc0_scratch3 (biases mask))
      ⊢ iprop((iprop((slot c own false 0 h p₁ ∗ slot c own true 0 h p₂ ∗ sums c h (ownSums mask q (own false c) (own true c) h))
          ∗ Whole c cc0_scratch2 q ∗ Whole c cc0_scratch3 (biases mask)) -∗ Run D c k Q) -∗ Run D c (diagonal h k) Q) := by
  unfold diagonal sums ownSums wLo wHi holds
  iintro ⟨⟨HK, HV, ⟨%v, %f, Hl, -⟩, ⟨%w, %g, Ha, -⟩⟩, Hq, Hb⟩ Hk
  iapply (load_known c (m := qRef) (r := colsLo h) (S := Finset.univ) (f := q) (v := colsLoOf q h) (Finset.subset_univ _) rfl) $$ Hq
  iintro Hq
  iapply (load_slotLo c own) $$ HK
  iintro HK
  iapply (load_known c (m := biasRef) (r := Rect.unit (s := S1024x1024) ![0, 0] S512x512.size inb_S1024x1024_S512x512_0_0) (S := Finset.univ) (f := biases mask) (Finset.subset_univ _) rfl) $$ Hb
  iintro Hb
  iapply (load_known c (m := lRef) (r := rowLo h) (rowLo_subset h) rfl) $$ Hl
  iintro Hl
  iapply (wp_store 𝒱₀ (c : Thread nD τ) none Set.univ (m := lRef) (r := rowLo h) (Mk := Finset.univ) (rowLo_subset h)) $$ Hl
  iintro Hl
  iapply (load_slotLo c own) $$ HV
  iintro HV
  iapply (load_known c (m := accRef) (r := colsLo h) (colsLo_subset h) rfl) $$ Ha
  iintro Ha
  iapply (wp_store 𝒱₀ (c : Thread nD τ) none Set.univ (m := accRef) (r := colsLo h) (Mk := Finset.univ) (colsLo_subset h)) $$ Ha
  iintro Ha
  iapply (load_known c (m := qRef) (r := colsHi h) (S := Finset.univ) (f := q) (v := colsHiOf q h) (Finset.subset_univ _) rfl) $$ Hq
  iintro Hq
  iapply (load_slot c own) $$ HK
  iintro HK
  iapply (load_known c (m := biasRef) (r := Rect.unit (s := S1024x1024) ![512, 0] S512x1024.size inb_S1024x1024_S512x1024_512_0) (S := Finset.univ) (f := biases mask) (Finset.subset_univ _) rfl) $$ Hb
  iintro Hb
  iapply (load_known c (m := lRef) (r := rowHi h) (rowHi_subset h) rfl) $$ Hl
  iintro Hl
  iapply (wp_store 𝒱₀ (c : Thread nD τ) none Set.univ (m := lRef) (r := rowHi h) (Mk := Finset.univ) (rowHi_subset h)) $$ Hl
  iintro Hl
  iapply (load_slot c own) $$ HV
  iintro HV
  iapply (load_known c (m := accRef) (r := colsHi h) (colsHi_subset h) rfl) $$ Ha
  iintro Ha
  iapply (wp_store 𝒱₀ (c : Thread nD τ) none Set.univ (m := accRef) (r := colsHi h) (Mk := Finset.univ) (colsHi_subset h)) $$ Ha
  iintro Ha
  iapply Hk
  isplitr [Hq Hb]
  · isplitl [HK]; · iexact HK
    isplitl [HV]; · iexact HV
    isplitl [Hl]
    · iexists _
      isplitl [Hl]
      · iexact Hl
      · ipureintro
        rw [origin_own]
        exact read_overSums h f _ _
    · iexists _
      isplitl [Ha]
      · iexact Ha
      · ipureintro
        rw [origin_own]
        exact read_overMix h g _ _
  · isplitl [Hq]
    · iexact Hq
    · iexact Hb

end Attn
-- ==== Proof.Loops.lean ====
/- The body's loops, each as one step. -/
module

public import proofs.«01_k».proof.Proof.Blocks

@[expose] public section

set_option maxRecDepth 16384

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ UU ℕ

variable {D : Defs nD τ sig (Elt F) Λ₀} (c : Dev nD) {Q : Post F} (own : Bool → Dev nD → Table F) (κ : GSem nD τ sig → ℕ)

/-- What every device knows throughout: the protocol's records and the order of waits. -/
def known : sProp 𝕄 := iprop(records own κ ∗ levAts L lv)

instance : BI.Persistent (known own κ) := by unfold known; infer_instance

/-! ## The loops, one after the other -/

theorem take_loop (k : Body F) :
    iprop(bigSepL heads (fun h => iprop(someSlab (F := F) c false 0 h ∗ someSlab (F := F) c true 0 h))
        ∗ ownAt c false (own false c) ∗ ownAt c true (own true c))
      ⊢ iprop((iprop(bigSepL heads (fun h => iprop(slot c own false 0 h fullShare ∗ slot c own true 0 h fullShare))
        ∗ ownAt c false (own false c) ∗ ownAt c true (own true c)) -∗ Run D c k Q)
        -∗ Run D c (loop (fun h k => takeIn false h <| takeIn true h k) heads k) Q) := by
  refine run_loop_keep c _ _ _ _ (fun h k => ?_) heads k
  iintro ⟨⟨H1, H2⟩, HA, HB⟩ Hk
  iapply (takeIn_step c own false h) $$ [H1 HA]
  · isplitl [H1] <;> iassumption
  iintro ⟨H1, HA⟩
  iapply (takeIn_step c own true h) $$ [H2 HB]
  · isplitl [H2] <;> iassumption
  iintro ⟨H2, HB⟩
  iapply Hk
  isplitl [H1 H2]
  · isplitl [H1] <;> iassumption
  · isplitl [HA] <;> iassumption

/-- Starting the keys' and then the values' copy. -/
theorem startTwo_step (j₁ j₂ : Copy) (l : List Copy) (k : Body F) :
    iprop(((going c j₁ ∗ going c j₂) ∗ sentPay own c j₁ ∗ sentPay own c j₂) ∗ owing c (j₁ :: j₂ :: l) ∗ known own κ)
      ⊢ iprop((iprop((leaving c j₁ ∗ leaving c j₂) ∗ owing c l ∗ known own κ) -∗ Run D c k Q)
        -∗ Run D c (startCopy c j₁ <| startCopy c j₂ k) Q) := by
  unfold known
  iintro ⟨⟨⟨G1, G2⟩, S1, S2⟩, HO, #HR, #HL⟩ Hk
  iapply (startCopy_step c own κ j₁) $$ [G1 S1 HO]
  · isplitr; · iexact HR
    isplitl [G1]; · iexact G1
    isplitl [S1]; · iexact S1
    iexact HO
  iintro ⟨L1, HO⟩
  iapply (startCopy_step c own κ j₂) $$ [G2 S2 HO]
  · isplitr; · iexact HR
    isplitl [G2]; · iexact G2
    isplitl [S2]; · iexact S2
    iexact HO
  iintro ⟨L2, HO⟩
  iapply Hk
  isplitl [L1 L2]
  · isplitl [L1] <;> iassumption
  isplitl [HO]
  · iexact HO
  isplitr
  · iexact HR
  · iexact HL

theorem start_loop (t : Bool) (rest : List Copy) (k : Body F) :
    iprop(bigSepL heads (fun h => iprop((going c (.first t false h) ∗ going c (.first t true h))
          ∗ sentPay own c (.first t false h) ∗ sentPay own c (.first t true h)))
        ∗ owing c (heads.flatMap (firstTwo t) ++ rest) ∗ known own κ)
      ⊢ iprop((iprop(bigSepL heads (fun h => iprop(leaving (F := F) c (.first t false h) ∗ leaving c (.first t true h)))
        ∗ owing c rest ∗ known own κ) -∗ Run D c k Q)
        -∗ Run D c (loop (fun h k => startCopy c (.first t false h) <| startCopy c (.first t true h) k) heads k) Q) :=
  run_loop c _ (fun h => iprop((going c (.first t false h) ∗ going c (.first t true h))
      ∗ sentPay own c (.first t false h) ∗ sentPay own c (.first t true h))) _
    (fun l => iprop(owing c (l.flatMap (firstTwo t) ++ rest) ∗ known own κ))
    (fun h l k => startTwo_step c own κ (.first t false h) (.first t true h) (l.flatMap (firstTwo t) ++ rest) k) heads k

theorem diagonal_loop (mask : F .f32) (q : Table F) (k : Body F) :
    iprop(bigSepL heads (fun h => iprop(slot c own false 0 h fullShare.left ∗ slot c own true 0 h fullShare.left
          ∗ (∃ v, holds (F := F) c lRef (row h) v) ∗ ∃ v, holds (F := F) c accRef (cols h) v))
        ∗ Whole c cc0_scratch2 q ∗ Whole c cc0_scratch3 (biases mask))
      ⊢ iprop((iprop(bigSepL heads (fun h => iprop(slot c own false 0 h fullShare.left ∗ slot c own true 0 h fullShare.left
          ∗ sums c h (ownSums mask q (own false c) (own true c) h)))
        ∗ Whole c cc0_scratch2 q ∗ Whole c cc0_scratch3 (biases mask)) -∗ Run D c k Q)
        -∗ Run D c (loop diagonal heads k) Q) :=
  run_loop_keep c _ _ _ _ (fun h k => diagonal_step c own mask h q _ _ k) heads k

/-- Both arrivals of a head awaited, and the chunk taken in. -/
theorem landed_step (j₁ j₂ : Copy) (s : Fin 4) (h : Fin 8) (h₁ : gotPay own c j₁ ⊢ slot c own false s h fullShare)
    (h₂ : gotPay own c j₂ ⊢ slot c own true s h fullShare) (l : List Copy) (hl : ∀ j ∈ l, hop j₁ < hop j ∧ hop j₂ < hop j)
    (q : Table F) (P : Sums F) (k : Body F) :
    iprop(((arriving (F := F) c j₁ ∗ arriving c j₂) ∗ sums c h P) ∗ owing c l ∗ known own κ ∗ Whole c cc0_scratch2 q)
      ⊢ iprop((iprop(((atPos ER (recvCell c j₁) (0 + 1) ∅ 0 ∗ atPos ER (recvCell c j₂) (0 + 1) ∅ 0)
          ∗ slot c own false s h fullShare ∗ slot c own true s h fullShare ∗ sums c h (seenChunk c own s q h P))
          ∗ owing c l ∗ known own κ ∗ Whole c cc0_scratch2 q) -∗ Run D c k Q)
        -∗ Run D c (awaitCopy j₁ <| awaitCopy j₂ <| chunkIf c s h k) Q) := by
  unfold known
  iintro ⟨⟨⟨A1, A2⟩, Hs⟩, HO, ⟨#HR, #HL⟩, Hq⟩ Hk
  iapply (awaitCopy_step c own κ j₁ l (fun j hj => (hl j hj).1)) $$ [A1 HO]
  · isplitr; · iexact HR
    isplitr; · iexact HL
    isplitl [A1]; · iexact A1
    iexact HO
  iintro ⟨A1, S1, HO⟩
  ihave S1 := h₁ $$ S1
  iapply (awaitCopy_step c own κ j₂ l (fun j hj => (hl j hj).2)) $$ [A2 HO]
  · isplitr; · iexact HR
    isplitr; · iexact HL
    isplitl [A2]; · iexact A2
    iexact HO
  iintro ⟨A2, S2, HO⟩
  ihave S2 := h₂ $$ S2
  iapply (chunkIf_step c own s h q fullShare fullShare P) $$ [S1 S2 Hs Hq]
  · isplitl [S1 S2 Hs]
    · isplitl [S1]; · iexact S1
      isplitl [S2]; · iexact S2
      iexact Hs
    · iexact Hq
  iintro ⟨⟨S1, S2, Hs⟩, Hq⟩
  iapply Hk
  isplitl [A1 A2 S1 S2 Hs]
  · isplitl [A1 A2]
    · isplitl [A1] <;> iassumption
    isplitl [S1]; · iexact S1
    isplitl [S2]; · iexact S2
    iexact Hs
  isplitl [HO]; · iexact HO
  isplitr
  · isplitr
    · iexact HR
    · iexact HL
  · iexact Hq

/-- What awaiting a head's two arrivals leaves. -/
abbrev landed (j₁ j₂ : Copy) (s : Fin 4) (h : Fin 8) (q : Table F) (P : Sums F) : sProp 𝕄 :=
  iprop((atPos ER (recvCell c j₁) (0 + 1) ∅ 0 ∗ atPos ER (recvCell c j₂) (0 + 1) ∅ 0)
    ∗ slot c own false s h fullShare ∗ slot c own true s h fullShare ∗ sums c h (seenChunk c own s q h P))

/-- A loop of such heads. -/
theorem landed_loop {f : Fin 4 → Body F → Body F} (j₁ j₂ : Fin 4 → Copy) (s : Fin 4) (hd : Fin 4 → Fin 8)
    (hf : ∀ i k, f i k = (awaitCopy (j₁ i) <| awaitCopy (j₂ i) <| chunkIf c s (hd i) k))
    (h₁ : ∀ i, gotPay own c (j₁ i) ⊢ slot c own false s (hd i) fullShare)
    (h₂ : ∀ i, gotPay own c (j₂ i) ⊢ slot c own true s (hd i) fullShare)
    (l : List Copy) (hl : ∀ i, ∀ j ∈ l, hop (j₁ i) < hop j ∧ hop (j₂ i) < hop j)
    (q : Table F) (P : Fin 8 → Sums F) (k : Body F) :
    iprop(bigSepL halves (fun i => iprop((arriving (F := F) c (j₁ i) ∗ arriving c (j₂ i)) ∗ sums c (hd i) (P (hd i))))
        ∗ owing c l ∗ known own κ ∗ Whole c cc0_scratch2 q)
      ⊢ iprop((iprop(bigSepL halves (fun i => landed c own (j₁ i) (j₂ i) s (hd i) q (P (hd i)))
          ∗ owing c l ∗ known own κ ∗ Whole c cc0_scratch2 q) -∗ Run D c k Q)
        -∗ Run D c (loop f halves k) Q) := by
  refine run_loop_keep c _ (fun i => iprop((arriving (F := F) c (j₁ i) ∗ arriving c (j₂ i)) ∗ sums c (hd i) (P (hd i)))) _
    (iprop(owing c l ∗ known own κ ∗ Whole c cc0_scratch2 q)) (fun i k => ?_) halves k
  rw [hf]
  exact landed_step c own κ (j₁ i) (j₂ i) s (hd i) (h₁ i) (h₂ i) l (hl i) q (P (hd i)) k

/-- What awaiting a head's two arrivals and passing them on leaves. -/
abbrev passed (t : Bool) (s : Fin 4) (h : Fin 8) (i : Fin 4) (q : Table F) (P : Sums F) : sProp 𝕄 :=
  iprop((atPos ER (recvCell c (.first t false h)) (0 + 1) ∅ 0 ∗ atPos ER (recvCell c (.first t true h)) (0 + 1) ∅ 0)
    ∗ (leaving c (.second t false i) ∗ leaving c (.second t true i))
    ∗ slot c own false s h fullShare.left ∗ slot c own true s h fullShare.left ∗ sums c h (seenChunk c own s q h P))

theorem second_hop (t : Bool) (l : List (Fin 4)) : ∀ j ∈ l.flatMap (secondTwo t), hop j = 3 := by
  intro j hj
  obtain ⟨i, -, hj⟩ := List.mem_flatMap.mp hj
  simp only [secondTwo, List.mem_cons, List.not_mem_nil, or_false] at hj
  obtain rfl | rfl := hj <;> rfl

theorem slot1Low_loop (q : Table F) (P : Fin 8 → Sums F) (k : Body F) :
    iprop(bigSepL halves (fun i => iprop((arriving (F := F) c (.first false false (lowHead i)) ∗ arriving c (.first false true (lowHead i)))
          ∗ (going c (.second false false i) ∗ going c (.second false true i)) ∗ sums c (lowHead i) (P (lowHead i))))
        ∗ owing c (halves.flatMap (secondTwo false) ++ halves.flatMap (secondTwo true)) ∗ known own κ ∗ Whole c cc0_scratch2 q)
      ⊢ iprop((iprop(bigSepL halves (fun i => passed c own false 1 (lowHead i) i q (P (lowHead i)))
        ∗ owing c (halves.flatMap (secondTwo true)) ∗ known own κ ∗ Whole c cc0_scratch2 q) -∗ Run D c k Q)
        -∗ Run D c (loop (slot1Low c) halves k) Q) := by
  refine run_loop c _ (fun i => iprop((arriving (F := F) c (.first false false (lowHead i)) ∗ arriving c (.first false true (lowHead i)))
      ∗ (going c (.second false false i) ∗ going c (.second false true i)) ∗ sums c (lowHead i) (P (lowHead i)))) _
    (fun l => iprop(owing c (l.flatMap (secondTwo false) ++ halves.flatMap (secondTwo true)) ∗ known own κ ∗ Whole c cc0_scratch2 q))
    (fun i l k => ?_) halves k
  have hl : ∀ j ∈ (i :: l).flatMap (secondTwo false) ++ halves.flatMap (secondTwo true), 2 < hop j := by
    intro j hj
    obtain hj | hj := List.mem_append.mp hj <;> rw [second_hop _ _ j hj] <;> decide
  unfold slot1Low known passed slot slabPt
  iintro ⟨⟨⟨A1, A2⟩, ⟨G1, G2⟩, Hs⟩, HO, ⟨#HR, #HL⟩, Hq⟩ Hk
  iapply (awaitCopy_step c own κ (.first false false (lowHead i)) _ hl) $$ [A1 HO]
  · isplitr; · iexact HR
    isplitr; · iexact HL
    isplitl [A1]; · iexact A1
    iexact HO
  unfold gotPay slabPt
  iintro ⟨A1, ⟨S1, T1⟩, HO⟩
  iapply (startCopy_step c own κ (.second false false i) (.second false true i :: (l.flatMap (secondTwo false) ++ halves.flatMap (secondTwo true)))) $$ [G1 T1 HO]
  · isplitr; · iexact HR
    isplitl [G1]; · iexact G1
    isplitl [T1]; · unfold sentPay slabPt; iexact T1
    iexact HO
  iintro ⟨L1, HO⟩
  iapply (awaitCopy_step c own κ (.first false true (lowHead i)) _ (fun j hj => hl j (List.mem_cons_of_mem _ hj))) $$ [A2 HO]
  · isplitr; · iexact HR
    isplitr; · iexact HL
    isplitl [A2]; · iexact A2
    iexact HO
  unfold gotPay slabPt
  iintro ⟨A2, ⟨S2, T2⟩, HO⟩
  iapply (startCopy_step c own κ (.second false true i) (l.flatMap (secondTwo false) ++ halves.flatMap (secondTwo true))) $$ [G2 T2 HO]
  · isplitr; · iexact HR
    isplitl [G2]; · iexact G2
    isplitl [T2]; · unfold sentPay slabPt; iexact T2
    iexact HO
  iintro ⟨L2, HO⟩
  iapply (chunkIf_step c own 1 (lowHead i) q fullShare.left fullShare.left (P (lowHead i))) $$ [S1 S2 Hs Hq]
  · isplitl [S1 S2 Hs]
    · isplitl [S1]; · iexact S1
      isplitl [S2]; · iexact S2
      iexact Hs
    · iexact Hq
  iintro ⟨⟨S1, S2, Hs⟩, Hq⟩
  iapply Hk
  isplitl [A1 A2 L1 L2 S1 S2 Hs]
  · isplitl [A1 A2]
    · isplitl [A1] <;> iassumption
    isplitl [L1 L2]
    · isplitl [L1] <;> iassumption
    isplitl [S1]; · iexact S1
    isplitl [S2]; · iexact S2
    iexact Hs
  isplitl [HO]; · iexact HO
  isplitr
  · isplitr
    · iexact HR
    · iexact HL
  · iexact Hq

theorem slot3High_loop (q : Table F) (P : Fin 8 → Sums F) (k : Body F) :
    iprop(bigSepL halves (fun i => iprop((arriving (F := F) c (.first true false (highHead i)) ∗ arriving c (.first true true (highHead i)))
          ∗ (going c (.second true false i) ∗ going c (.second true true i)) ∗ sums c (highHead i) (P (highHead i))))
        ∗ owing c (halves.flatMap (secondTwo true)) ∗ known own κ ∗ Whole c cc0_scratch2 q)
      ⊢ iprop((iprop(bigSepL halves (fun i => passed c own true 3 (highHead i) i q (P (highHead i)))
        ∗ owing c [] ∗ known own κ ∗ Whole c cc0_scratch2 q) -∗ Run D c k Q)
        -∗ Run D c (loop (slot3High c) halves k) Q) := by
  refine run_loop c _ (fun i => iprop((arriving (F := F) c (.first true false (highHead i)) ∗ arriving c (.first true true (highHead i)))
      ∗ (going c (.second true false i) ∗ going c (.second true true i)) ∗ sums c (highHead i) (P (highHead i)))) _
    (fun l => iprop(owing c (l.flatMap (secondTwo true)) ∗ known own κ ∗ Whole c cc0_scratch2 q))
    (fun i l k => ?_) halves k
  have hl : ∀ j ∈ (i :: l).flatMap (secondTwo true), 2 < hop j := by
    intro j hj
    rw [second_hop _ _ j hj]
    decide
  unfold slot3High passed
  iintro ⟨⟨⟨A1, A2⟩, G, Hs⟩, HO, #HK, Hq⟩ Hk
  unfold known
  icases HK with ⟨#HR, #HL⟩
  iapply (awaitCopy_step c own κ (.first true false (highHead i)) _ hl) $$ [A1 HO]
  · isplitr; · iexact HR
    isplitr; · iexact HL
    isplitl [A1]; · iexact A1
    iexact HO
  unfold gotPay slabPt
  iintro ⟨A1, ⟨S1, T1⟩, HO⟩
  iapply (awaitCopy_step c own κ (.first true true (highHead i)) _ hl) $$ [A2 HO]
  · isplitr; · iexact HR
    isplitr; · iexact HL
    isplitl [A2]; · iexact A2
    iexact HO
  unfold gotPay slabPt
  iintro ⟨A2, ⟨S2, T2⟩, HO⟩
  iapply (startTwo_step c own κ (.second true false i) (.second true true i) (l.flatMap (secondTwo true))) $$ [G T1 T2 HO]
  · isplitl [G T1 T2]
    · isplitl [G]; · iexact G
      isplitl [T1]; · unfold sentPay slabPt; iexact T1
      unfold sentPay slabPt; iexact T2
    isplitl [HO]; · iexact HO
    unfold known
    isplitr
    · iexact HR
    · iexact HL
  iintro ⟨HLv, HO, -⟩
  iapply (chunkIf_step c own 3 (highHead i) q fullShare.left fullShare.left (P (highHead i))) $$ [S1 S2 Hs Hq]
  · isplitl [S1 S2 Hs]
    · isplitl [S1]; · iexact S1
      isplitl [S2]; · iexact S2
      iexact Hs
    · iexact Hq
  iintro ⟨⟨S1, S2, Hs⟩, Hq⟩
  iapply Hk
  isplitl [A1 A2 HLv S1 S2 Hs]
  · isplitl [A1 A2]
    · isplitl [A1] <;> iassumption
    isplitl [HLv]
    · iexact HLv
    isplitl [S1]; · iexact S1
    isplitl [S2]; · iexact S2
    iexact Hs
  isplitl [HO]; · iexact HO
  isplitr
  · isplitr
    · iexact HR
    · iexact HL
  · iexact Hq

theorem finish_loop (P : Fin 8 → Sums F) (k : Body F) :
    iprop(bigSepL heads (fun h => iprop(sums c h (P h) ∗ ∃ v, holds (F := F) c ctxRef (cols h) v)) ∗ emp)
      ⊢ iprop((iprop(bigSepL heads (fun h => iprop(sums c h (P h) ∗ holds c ctxRef (cols h) (normalised (P h).2 (P h).1))) ∗ emp) -∗ Run D c k Q)
        -∗ Run D c (loop finish heads k) Q) := by
  refine run_loop_keep c _ _ _ _ (fun h k => ?_) heads k
  iintro ⟨H, -⟩ Hk
  iapply (finish_step c h (P h)) $$ H
  iintro H
  iapply Hk
  isplitl
  · iexact H
  · iempintro

theorem sent_loop {α : Type} (f : α → Copy) (l : List α) (k : Body F) :
    iprop(bigSepL l (fun a => iprop(atPos ER (sendCell c (f a)) 0 ∅ 0 ∗ leaving (F := F) c (f a))) ∗ owing c [] ∗ known own κ)
      ⊢ iprop((iprop(bigSepL l (fun a => iprop(atPos ER (sendCell c (f a)) (0 + 1) ∅ 0 ∗ sentPay own c (f a))) ∗ owing c [] ∗ known own κ) -∗ Run D c k Q)
        -∗ Run D c (loop (fun a => awaitSent (f a)) l k) Q) := by
  refine run_loop_keep c _ _ _ _ (fun a k => ?_) l k
  unfold known
  iintro ⟨H, HO, #HR, #HL⟩ Hk
  iapply (awaitSent_step c own κ (f a)) $$ [H HO]
  · isplitr; · iexact HR
    isplitl [H]; · iexact H
    iexact HO
  iintro ⟨Ha, Hs, HO⟩
  iapply Hk
  isplitl [Ha Hs]
  · isplitl [Ha] <;> iassumption
  isplitl [HO]; · iexact HO
  isplitr
  · iexact HR
  · iexact HL

end Attn
-- ==== Proof.Heads.lean ====
/- The buffers kept by heads, and the value the body computes. -/
module

public import proofs.«01_k».proof.Proof.Loops

@[expose] public section

set_option maxRecDepth 16384

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ UU ℕ

variable {D : Defs nD τ sig (Elt F) Λ₀} (c : Dev nD) {Q : Post F} (own : Bool → Dev nD → Table F) (κ : GSem nD τ sig → ℕ)

/-! ## Buffers by heads -/

/-- The elements of each head's rectangle. -/
abbrev sets {e : EltTy} {s : Shape} (m : Memref sig .tc .vmem s e) (r : Fin 8 → Rect s) (h : Fin 8) : Finset m.view.ty.Idx :=
  (m.access (r h)).set

section Heads
variable {e : EltTy} {s : Shape} (m : Memref sig .tc .vmem s e) (r : Fin 8 → Rect s)
  (hd : ∀ h h', h ≠ h' → Disjoint (sets m r h) (sets m r h'))
  (hc : Finset.univ.biUnion (sets m r) = Finset.univ)

theorem list_heads (A : Fin 8 → sProp 𝕄) : bigSep Finset.univ A = bigSepL heads A :=
  bigSep_univ_eq_bigSepL heads (by decide) (by decide) A

theorem each_some (f : Buf (Elt F) (m.view.loc (c : Thread nD τ))) (h : Fin 8) :
    iprop(m.view.loc (c : Thread nD τ) ↦[sets m r h]{fullShare} f) ⊢ iprop(∃ v, holds (F := F) c m (r h) v) := by
  unfold holds
  iintro H
  iexists _
  iexists f
  isplitl [H]
  · iexact H
  · ipureintro; rfl

include hd hc in
theorem heads_split :
    iprop(∃ f : Buf (Elt F) (m.view.loc (c : Thread nD τ)), m.view.loc (c : Thread nD τ) ↦{fullShare} f)
      ⊢ bigSepL heads (fun h => iprop(∃ v, holds (F := F) c m (r h) v)) := by
  iintro ⟨%f, H⟩
  ihave H := (Entails.of_eq (Ring.pointsTo_blocks (sets m r) hd hc f)) $$ H
  ihave H := (Entails.of_eq (list_heads _)) $$ H
  ihave H := (bigSepL_mono (l := heads) (Ψ := fun h => iprop(∃ v, holds (F := F) c m (r h) v)) (fun h _ => each_some c m r f h)) $$ H
  iexact H

include hd hc in
theorem heads_join (f₀ : Buf (Elt F) (m.view.loc (c : Thread nD τ))) :
    iprop(bigSepL heads (fun h => iprop(∃ v, holds (F := F) c m (r h) v)))
      ⊢ iprop(∃ f : Buf (Elt F) (m.view.loc (c : Thread nD τ)), m.view.loc (c : Thread nD τ) ↦{fullShare} f) := by
  rw [← list_heads]
  refine .trans (bigSep_mono fun h _ => ?_) (Ring.pointsTo_blocks_join_exists (sets m r) hd hc f₀)
  show iprop(∃ v, holds (F := F) c m (r h) v) ⊢ iprop(∃ f, m.view.loc (c : Thread nD τ) ↦[(m.access (r h)).set]{fullShare} f)
  unfold holds
  iintro ⟨%v, %f, H, -⟩
  iexists f
  iexact H

include hd hc in
/-- Heads whose values are those of one table join to that table. -/
theorem heads_known (g : Buf (Elt F) (m.view.loc (c : Thread nD τ))) (v : ∀ h, (r h).shape.Idx → Elt F e)
    (hg : ∀ h, (m.access (r h)).read (Elt F) g = v h) :
    iprop(bigSepL heads (fun h => holds c m (r h) (v h))) ⊢ iprop(m.view.loc (c : Thread nD τ) ↦{fullShare} g) := by
  rw [← list_heads, Ring.pointsTo_blocks (sets m r) hd hc g]
  refine bigSep_mono fun h _ => ?_
  show iprop(holds c m (r h) (v h)) ⊢ iprop(m.view.loc (c : Thread nD τ) ↦[(m.access (r h)).set]{fullShare} g)
  unfold holds
  iintro ⟨%f, H, %hf⟩
  have hfg : ∀ i ∈ (m.access (r h)).set, f i = g i := by
    intro i hi
    obtain ⟨x, -, rfl⟩ := Finset.mem_map.mp hi
    have := congrFun (hf.trans (hg h).symm) x
    rw [View.read_apply, View.read_apply] at this
    exact cast_inj _ |>.mp this
  ihave H := (Entails.of_eq (pointsTo_congr hfg)) $$ H
  iexact H

end Heads

theorem cols_disjoint (h h' : Fin 8) (hn : h ≠ h') : Disjoint (cols h).set (cols h').set := by
  rw [Finset.disjoint_left]
  intro i hi hi'
  rw [Rect.mem_set_unit] at hi hi'
  refine hn (Fin.ext ?_)
  have a : 128 * h.val ≤ (i 1).val := (hi 1).1
  have b : (i 1).val < 128 * h.val + 128 := (hi 1).2
  have a' : 128 * h'.val ≤ (i 1).val := (hi' 1).1
  have b' : (i 1).val < 128 * h'.val + 128 := (hi' 1).2
  omega

theorem cols_cover : Finset.univ.biUnion (fun h : Fin 8 => (cols h).set) = Finset.univ :=
  Finset.eq_univ_of_forall fun i => by
    have h0 : (i 0).val < 1024 := (i 0).isLt
    have h1 : (i 1).val < 1024 := (i 1).isLt
    refine Finset.mem_biUnion.mpr ⟨⟨(i 1).val / 128, by omega⟩, Finset.mem_univ _, ?_⟩
    rw [Rect.mem_set_unit]
    intro a
    fin_cases a
    · exact ⟨Nat.zero_le _, by show (i 0).val < 0 + 1024; omega⟩
    · refine ⟨?_, ?_⟩
      · show 128 * ((i 1).val / 128) ≤ (i 1).val; omega
      · show (i 1).val < 128 * ((i 1).val / 128) + 128; omega

theorem row_disjoint (h h' : Fin 8) (hn : h ≠ h') : Disjoint (row h).set (row h').set := by
  rw [Finset.disjoint_left]
  intro i hi hi'
  rw [Rect.mem_set_unit] at hi hi'
  refine hn (Fin.ext ?_)
  have a : h.val ≤ (i 0).val := (hi 0).1
  have b : (i 0).val < h.val + 1 := (hi 0).2
  have a' : h'.val ≤ (i 0).val := (hi' 0).1
  have b' : (i 0).val < h'.val + 1 := (hi' 0).2
  omega

theorem row_mem (i : S8x1024x1.Idx) : i ∈ (row (i 0)).set := by
  have h1 : (i 1).val < 1024 := (i 1).isLt
  have h2 : (i 2).val < 1 := (i 2).isLt
  rw [Rect.mem_set_unit]
  intro a
  fin_cases a
  · exact ⟨Nat.le_refl _, Nat.lt_succ_self _⟩
  · exact ⟨Nat.zero_le _, by show (i 1).val < 0 + 1024; omega⟩
  · exact ⟨Nat.zero_le _, by show (i 2).val < 0 + 1; omega⟩

theorem acc_sets (h : Fin 8) : sets accRef cols h = (cols h).set := View.set_slice_whole cc0_scratch4 (cols h)
theorem acc_disjoint (h h' : Fin 8) (hn : h ≠ h') : Disjoint (sets accRef cols h) (sets accRef cols h') :=
  (acc_sets h).symm ▸ (acc_sets h').symm ▸ cols_disjoint h h' hn
theorem acc_cover : Finset.univ.biUnion (sets accRef cols) = Finset.univ :=
  (congrArg (Finset.biUnion Finset.univ) (funext acc_sets)).trans cols_cover
theorem ctx_sets (h : Fin 8) : sets ctxRef cols h = (cols h).set := View.set_slice_whole cc0_scratch5 (cols h)
theorem ctx_disjoint (h h' : Fin 8) (hn : h ≠ h') : Disjoint (sets ctxRef cols h) (sets ctxRef cols h') :=
  (ctx_sets h).symm ▸ (ctx_sets h').symm ▸ cols_disjoint h h' hn
theorem ctx_cover : Finset.univ.biUnion (sets ctxRef cols) = Finset.univ :=
  (congrArg (Finset.biUnion Finset.univ) (funext ctx_sets)).trans cols_cover
theorem l_sets (h : Fin 8) : sets lRef row h = (row h).set := View.set_slice_whole cc0_scratch6 (row h)
theorem l_disjoint (h h' : Fin 8) (hn : h ≠ h') : Disjoint (sets lRef row h) (sets lRef row h') := by
  rw [Finset.disjoint_left]
  intro i hi hi'
  have a : i ∈ (row h).set := (l_sets h).subset hi
  have b : i ∈ (row h').set := (l_sets h').subset hi'
  exact Finset.disjoint_left.mp (row_disjoint h h' hn) a b
theorem l_cover : Finset.univ.biUnion (sets lRef row) = Finset.univ := by
  ext i
  have hi : ∃ h, i ∈ sets lRef row h := ⟨i 0, (l_sets (i 0)).superset (row_mem i)⟩
  obtain ⟨h, hi⟩ := hi
  exact iff_of_true (Finset.mem_biUnion.mpr ⟨h, Finset.mem_univ _, hi⟩) (Finset.mem_univ _)

/-! ## The result -/

/-- A head's sums over all chunks the device sees. -/
def total (mask : F .f32) (q : Table F) (h : Fin 8) : Sums F :=
  seenChunk c own 2 q h (seenChunk c own 3 q h (seenChunk c own 1 q h (ownSums mask q (own false c) (own true c) h)))

/-- The context: each head's columns. -/
def context (mask : F .f32) (q : Table F) : Table F := fun i =>
  let h : Fin 8 := ⟨(i 1).val / 128, by have : (i 1).val < 1024 := (i 1).isLt; omega⟩
  normalised (total c own mask q h).2 (total c own mask q h).1
    (fun a => match a with | 0 => i 0 | 1 => ⟨(i 1).val % 128, Nat.mod_lt _ (by decide)⟩)

theorem context_head (mask : F .f32) (q : Table F) (h : Fin 8) (i : S1024x128.Idx) :
    context c own mask q ((cols h).emb i) = normalised (total c own mask q h).2 (total c own mask q h).1 i := by
  have h1 : (i 1).val < 128 := (i 1).isLt
  have e0 : ((cols h).emb i 0) = i 0 := Fin.ext (by show 0 + 1 * (i 0).val = (i 0).val; omega)
  have e1 : ((cols h).emb i 1).val = 128 * h.val + (i 1).val := by show 128 * h.val + 1 * (i 1).val = _; omega
  have eh : (⟨((cols h).emb i 1).val / 128, by rw [e1]; omega⟩ : Fin 8) = h := Fin.ext (by show _ / 128 = h.val; rw [e1]; omega)
  show normalised (total c own mask q ⟨((cols h).emb i 1).val / 128, _⟩).2 (total c own mask q ⟨((cols h).emb i 1).val / 128, _⟩).1 _ = _
  rw [eh]
  congr 1
  funext a
  fin_cases a
  · exact e0
  · exact Fin.ext (by show _ % 128 = (i 1).val; rw [e1]; omega)

/-- What the device stores as its result. -/
def result (qs mask : F .f32) (x wq wo : Table F) : S1024x1024.Idx → F .f32 :=
  projected (context c own mask (queries qs x wq)) wo

end Attn
-- ==== Proof.Sharing.lean ====
/- What a device holds before and after its body, and how it is shared out and put together. -/
module

public import proofs.«01_k».proof.Proof.Heads

@[expose] public section

set_option maxRecDepth 16384

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ UU ℕ

variable {D : Defs nD τ sig (Elt F) Λ₀} (c : Dev nD) {Q : Post F} (own : Bool → Dev nD → Table F) (κ : GSem nD τ sig → ℕ)

/-! ## Before and after -/

/-- What starting copy `j` needs, but the place it lands in. -/
def tokens (j : Copy) : sProp 𝕄 :=
  iprop(dutyTok ER (sendCell c j) 0 false ∗ reached ER (sendCell c j) 0 ∗ dutyTok ER (recvCell (j.target c) j) 0 false)

/-- What a device has for each copy, at first. -/
abbrev perCopy (j : Copy) : sProp 𝕄 :=
  iprop(atPos ER (sendCell c j) 0 ∅ 0 ∗ tokens c j ∗ arriving c j ∗ reached ER (recvCell c j) 0)

/-- What it has for the barrier, at first. -/
abbrev perBarrier : sProp 𝕄 :=
  iprop(atPos ER (barCell c) 0 ∅ 0 ∗ cred (tallyAt (barCell c) () 2) ∗ dutyTok ER (barCell (left c)) 0 false ∗ dutyTok ER (barCell (right c)) 0 true)

/-- The buffers the body only reads. -/
abbrev inputs (x wq wo : Table F) : sProp 𝕄 :=
  iprop(Whole c cc0_stg0_0 x ∗ Whole c cc0_stg1_0 wq ∗ (ownAt c false (own false c) ∗ ownAt c true (own true c)) ∗ Whole c cc0_stg4_0 wo)

/-- The buffers the body keeps its intermediate values in. -/
abbrev scratch : sProp 𝕄 :=
  iprop((∃ f, Whole (F := F) c cc0_scratch2 f) ∗ (∃ f, Whole (F := F) c cc0_scratch3 f) ∗ (∃ f, Whole (F := F) c cc0_scratch4 f)
    ∗ (∃ f, Whole (F := F) c cc0_scratch5 f) ∗ (∃ f, Whole (F := F) c cc0_scratch6 f))

/-- A device's share before its body. -/
def before (x wq wo : Table F) : sProp 𝕄 :=
  iprop(known own κ ∗ perBarrier c ∗ (∃ W, owes (c : Thread nD τ) (O₀ c) W) ∗ each (perCopy (F := F) c) ∗ (someKv (F := F) c false ∗ someKv (F := F) c true)
    ∗ inputs c own x wq wo ∗ (∃ f, Whole (F := F) c cc0_stg5_0 f) ∗ scratch (F := F) c)

/-- A device's share after its body. -/
def after (qs mask : F .f32) (x wq wo : Table F) : sProp 𝕄 :=
  iprop(atPos ER (barCell c) (0 + 1) ∅ 0 ∗ owing c [] ∗ (each (fun j => atPos ER (sendCell c j) (0 + 1) ∅ 0)
      ∗ each (fun j => atPos ER (recvCell c j) (0 + 1) ∅ 0)) ∗ (someKv (F := F) c false ∗ someKv (F := F) c true)
    ∗ inputs c own x wq wo ∗ Whole c cc0_stg5_0 (result c own qs mask x wq wo) ∗ scratch (F := F) c)

/-! ## Sharing out and putting together -/

theorem perCopy_parts : each (perCopy (F := F) c)
    = iprop(each (fun j => atPos ER (sendCell c j) 0 ∅ 0) ∗ each (tokens (F := F) c) ∗ each (arriving (F := F) c)
      ∗ each (fun j => reached ER (recvCell c j) 0)) := by
  unfold perCopy
  rw [each_both, each_both, each_both]

theorem each_halves {M : Type} [URA M] (X : Copy → sProp M) : each X ⊢ iprop(half false X ∗ half true X) := by
  unfold each half
  iintro ⟨H1, H2, H3, H4⟩
  isplitl [H1 H3]
  · isplitl [H1]; · iexact H1
    iexact H3
  · isplitl [H2]; · iexact H2
    iexact H4

/-- The two buffers, cut: the device's own slot, and the places for the copies that arrive. -/
theorem kv_places :
    iprop(someKv (F := F) c false ∗ someKv (F := F) c true)
      ⊢ iprop(bigSepL heads (fun h => iprop(someSlab (F := F) c false 0 h ∗ someSlab (F := F) c true 0 h))
        ∗ each (fun j => someSlab (F := F) c j.buf j.dstSlot j.head)) := by
  rw [← pieces_each (someSlab (F := F) c)]
  iintro ⟨H1, H2⟩
  isplitl [H1]
  · iapply (kv_split c false); iexact H1
  · iapply (kv_split c true); iexact H2

/-- And put together again. -/
theorem places_kv (f₀ : Buf (Elt F) ((kvRef false).view.loc (c : Thread nD τ))) (f₁ : Buf (Elt F) ((kvRef true).view.loc (c : Thread nD τ))) :
    iprop(bigSepL heads (fun h => iprop(someSlab (F := F) c false 0 h ∗ someSlab (F := F) c true 0 h))
        ∗ each (fun j => someSlab (F := F) c j.buf j.dstSlot j.head))
      ⊢ iprop(someKv (F := F) c false ∗ someKv (F := F) c true) := by
  rw [← pieces_each (someSlab (F := F) c)]
  iintro ⟨H1, H2⟩
  isplitl [H1]
  · iapply (kv_join c false f₀); iexact H1
  · iapply (kv_join c true f₁); iexact H2

/-- The places given to the neighbours, with the signals. -/
theorem landings :
    iprop(each (fun j => someSlab (F := F) c j.buf j.dstSlot j.head) ∗ each (fun j => reached ER (recvCell c j) 0))
      ⊢ iprop(barPay (F := F) (left c) false ∗ barPay (F := F) (right c) true) := by
  have hl : right (left c) = c := by revert c; decide
  have hr : left (right c) = c := by revert c; decide
  unfold barPay
  simp only [if_true, Bool.false_eq_true, if_false, hl, hr]
  rw [← each_both]
  exact each_halves (landing (F := F) c)

theorem goings :
    iprop(each (tokens (F := F) c) ∗ each (fun j => landing (F := F) (j.target c) j)) ⊢ each (going (F := F) c) := by
  rw [← each_both]
  refine each_mono fun j => ?_
  unfold tokens going
  iintro ⟨⟨H1, H2, H3⟩, H4⟩
  isplitl [H1]; · iexact H1
  isplitl [H2]; · iexact H2
  isplitl [H3]; · iexact H3
  iexact H4

/-- The device's own slot's head: a part for its own use, and a part for the copy in each direction. -/
abbrev ownParts (h : Fin 8) : sProp 𝕄 :=
  iprop((slot c own false 0 h fullShare.left ∗ slot c own true 0 h fullShare.left)
    ∗ (sentPay own c (.first false false h) ∗ sentPay own c (.first false true h))
    ∗ (sentPay own c (.first true false h) ∗ sentPay own c (.first true true h)))

theorem own_parts (h : Fin 8) :
    iprop(slot c own false 0 h fullShare ∗ slot c own true 0 h fullShare) ⊢ ownParts c own h := by
  unfold slot slabPt ownParts sentPay slabPt
  iintro ⟨⟨A1, A2, A3⟩, B1, B2, B3⟩
  isplitl [A1 B1]
  · isplitl [A1]; · iexact A1
    iexact B1
  isplitl [A2 B2]
  · isplitl [A2]; · iexact A2
    iexact B2
  · isplitl [A3]; · iexact A3
    iexact B3

/-- A slot's two halves are the slot, its contents no longer of interest. -/
theorem slot_some (b : Bool) (s : Fin 4) (h : Fin 8) :
    iprop(slot c own b s h fullShare.left ∗ slot c own b s h fullShare.right) ⊢ someSlab (F := F) c b s h := by
  unfold someSlab slot slabPt
  iintro ⟨A1, A2⟩
  iexists _
  icombine A1 A2 as H
  iexact H

theorem slot_some' (b : Bool) (s : Fin 4) (h : Fin 8) :
    slot c own b s h fullShare ⊢ someSlab (F := F) c b s h := by
  unfold someSlab
  iintro A
  iexists _
  iexact A

theorem parts_own (h : Fin 8) : ownParts c own h ⊢ iprop(someSlab (F := F) c false 0 h ∗ someSlab (F := F) c true 0 h) := by
  have key : ∀ b, iprop(slot c own b 0 h fullShare.right.left ∗ slot c own b 0 h fullShare.right.right) ⊢ slot c own b 0 h fullShare.right := by
    intro b
    unfold slot slabPt
    iintro ⟨A1, A2⟩
    icombine A1 A2 as H
    iexact H
  unfold ownParts
  iintro ⟨⟨A1, B1⟩, ⟨A2, B2⟩, A3, B3⟩
  isplitl [A1 A2 A3]
  · iapply (slot_some c own false 0 h)
    isplitl [A1]; · iexact A1
    iapply (key false)
    isplitl [A2]
    · unfold sentPay; iexact A2
    · unfold sentPay; iexact A3
  · iapply (slot_some c own true 0 h)
    isplitl [B1]; · iexact B1
    iapply (key true)
    isplitl [B2]
    · unfold sentPay; iexact B2
    · unfold sentPay; iexact B3

/-- A head passed on, once its second copies have left. -/
theorem passed_parts (t : Bool) (s : Fin 4) (hs : s = (Copy.second t false 0).srcSlot) (hd : Fin 4 → Fin 8) (hh : ∀ i, hd i = (Copy.second t false i).head)
    (q : Table F) (P : Fin 8 → Sums F) :
    iprop(bigSepL halves (fun i => passed c own t s (hd i) i q (P (hd i))))
      ⊢ iprop(bigSepL halves (fun i => iprop(atPos ER (recvCell c (.first t false (hd i))) (0 + 1) ∅ 0 ∗ atPos ER (recvCell c (.first t true (hd i))) (0 + 1) ∅ 0))
        ∗ bigSepL halves (fun i => iprop(leaving (F := F) c (.second t false i) ∗ leaving c (.second t true i)))
        ∗ bigSepL halves (fun i => iprop(slot c own false s (hd i) fullShare.left ∗ slot c own true s (hd i) fullShare.left))
        ∗ bigSepL halves (fun i => sums c (hd i) (seenChunk c own s q (hd i) (P (hd i))))) := by
  rw [← bigSepL_both, ← bigSepL_both, ← bigSepL_both]
  refine bigSepL_mono fun i _ => ?_
  unfold passed
  iintro ⟨A, B, C, D, E⟩
  isplitl [A]; · iexact A
  isplitl [B]; · iexact B
  isplitl [C D]
  · isplitl [C]; · iexact C
    iexact D
  iexact E

theorem landed_parts (j₁ j₂ : Fin 4 → Copy) (s : Fin 4) (hd : Fin 4 → Fin 8) (q : Table F) (P : Fin 8 → Sums F) :
    iprop(bigSepL halves (fun i => landed c own (j₁ i) (j₂ i) s (hd i) q (P (hd i))))
      ⊢ iprop(bigSepL halves (fun i => iprop(atPos ER (recvCell c (j₁ i)) (0 + 1) ∅ 0 ∗ atPos ER (recvCell c (j₂ i)) (0 + 1) ∅ 0))
        ∗ bigSepL halves (fun i => iprop(someSlab (F := F) c false s (hd i) ∗ someSlab (F := F) c true s (hd i)))
        ∗ bigSepL halves (fun i => sums c (hd i) (seenChunk c own s q (hd i) (P (hd i))))) := by
  rw [← bigSepL_both, ← bigSepL_both]
  refine bigSepL_mono fun i _ => ?_
  unfold landed
  iintro ⟨A, C, D, E⟩
  isplitl [A]; · iexact A
  isplitl [C D]
  · isplitl [C]
    · iapply (slot_some' c own); iexact C
    · iapply (slot_some' c own); iexact D
  iexact E

/-- The halves of a head passed on, together again. -/
theorem passed_join (t : Bool) (s : Fin 4) (hd : Fin 4 → Fin 8)
    (h₁ : ∀ i, sentPay own c (.second t false i) ⊢ slot c own false s (hd i) fullShare.right)
    (h₂ : ∀ i, sentPay own c (.second t true i) ⊢ slot c own true s (hd i) fullShare.right) :
    iprop(bigSepL halves (fun i => iprop(slot c own false s (hd i) fullShare.left ∗ slot c own true s (hd i) fullShare.left))
        ∗ bigSepL halves (fun i => sentPay own c (.second t false i)) ∗ bigSepL halves (fun i => sentPay own c (.second t true i)))
      ⊢ iprop(bigSepL halves (fun i => iprop(someSlab (F := F) c false s (hd i) ∗ someSlab (F := F) c true s (hd i)))) := by
  rw [← bigSepL_both, ← bigSepL_both]
  refine bigSepL_mono fun i _ => ?_
  iintro ⟨⟨A, B⟩, C, D⟩
  isplitl [A C]
  · iapply (slot_some c own false s (hd i))
    isplitl [A]; · iexact A
    iapply (h₁ i); iexact C
  · iapply (slot_some c own true s (hd i))
    isplitl [B]; · iexact B
    iapply (h₂ i); iexact D

end Attn
-- ==== Proof.Compute.lean ====
/- The body's exchange and its computation. -/
module

public import proofs.«01_k».proof.Proof.Sharing

@[expose] public section

set_option maxRecDepth 16384

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ UU ℕ

variable {D : Defs nD τ sig (Elt F) Λ₀} (c : Dev nD) {Q : Post F} (own : Bool → Dev nD → Table F) (κ : GSem nD τ sig → ℕ)

/-- The two hops of a pair of copies. -/
abbrev pairF {M : Type} [URA M] (t : Bool) (X : Copy → sProp M) : sProp M := bigSepL heads (fun h => iprop(X (.first t false h) ∗ X (.first t true h)))
/-- The same for the second hops. -/
abbrev pairS {M : Type} [URA M] (t : Bool) (X : Copy → sProp M) : sProp M := bigSepL halves (fun i => iprop(X (.second t false i) ∗ X (.second t true i)))

/-- The device's own slot, the share for its own use. -/
abbrev ownSlots : sProp 𝕄 := bigSepL heads (fun h => iprop(slot c own false 0 h fullShare.left ∗ slot c own true 0 h fullShare.left))

/-- The barrier, the device's own slot filled, and the first hops started. -/
theorem exchange (k : Body F) :
    iprop(known own κ ∗ perBarrier c ∗ (∃ W, owes (c : Thread nD τ) (O₀ c) W) ∗ each (perCopy (F := F) c)
        ∗ (someKv (F := F) c false ∗ someKv (F := F) c true) ∗ (ownAt c false (own false c) ∗ ownAt c true (own true c)))
      ⊢ iprop((iprop(atPos ER (barCell c) (0 + 1) ∅ 0 ∗ each (fun j => atPos ER (sendCell c j) 0 ∅ 0) ∗ each (arriving (F := F) c)
          ∗ (pairF false (leaving (F := F) c) ∗ pairF true (leaving (F := F) c)) ∗ (pairS false (going (F := F) c) ∗ pairS true (going (F := F) c))
          ∗ ownSlots c own ∗ owing c (halves.flatMap (secondTwo false) ++ halves.flatMap (secondTwo true))
          ∗ (ownAt c false (own false c) ∗ ownAt c true (own true c))) -∗ Run D c k Q)
        -∗ Run D c (signalBarrier (left c) <| signalBarrier (right c) <| awaitBarrier <|
          loop (fun h k => takeIn false h <| takeIn true h k) heads <|
          loop (fun h k => startCopy c (.first false false h) <| startCopy c (.first false true h) k) heads <|
          loop (fun h k => startCopy c (.first true false h) <| startCopy c (.first true true h) k) heads k) Q) := by
  unfold known
  iintro ⟨⟨#HR, #HL⟩, ⟨Hbar, Hcr, Hd1, Hd2⟩, ⟨%W, HO⟩, Hc, Hkv, Hown⟩ Hk
  ihave Hc := (Entails.of_eq (perCopy_parts c)) $$ Hc
  icases Hc with ⟨Hsend, Htok, Harr, Hreach⟩
  ihave Hkv := (kv_places c) $$ Hkv
  icases Hkv with ⟨Hslot, Hplace⟩
  ihave Hp := (landings c) $$ [Hplace Hreach]
  · isplitl [Hplace]; · iexact Hplace
    iexact Hreach
  icases Hp with ⟨Hp1, Hp2⟩
  iapply (signalBarrier_step c own κ (left c) false (owed c order + tallyAt (barCell (right c)) () 1) W) $$ [Hd1 Hp1 HO]
  · isplitr; · iexact HR
    isplitl [Hd1]; · iexact Hd1
    isplitl [Hp1]; · iexact Hp1
    iexact HO
  iintro HO
  iapply (signalBarrier_step c own κ (right c) true (owed c order) W) $$ [Hd2 Hp2 HO]
  · isplitr; · iexact HR
    isplitl [Hd2]; · iexact Hd2
    isplitl [Hp2]; · iexact Hp2
    iexact HO
  iintro HO
  iapply (awaitBarrier_step c own κ W) $$ [Hbar Hcr HO]
  · isplitr; · iexact HR
    isplitr; · iexact HL
    isplitl [Hbar]; · iexact Hbar
    isplitl [Hcr]; · iexact Hcr
    iexact HO
  iintro ⟨Hbar, Hland, HO⟩
  ihave Hgo := (goings c) $$ [Htok Hland]
  · isplitl [Htok]; · iexact Htok
    iexact Hland
  unfold each
  icases Hgo with ⟨Hg1, Hg2, Hg3, Hg4⟩
  iapply (take_loop c own) $$ [Hslot Hown]
  · isplitl [Hslot]; · iexact Hslot
    iexact Hown
  iintro ⟨Hslot, Hown⟩
  ihave Hslot := (bigSepL_mono (l := heads) (fun h _ => own_parts c own h)) $$ Hslot
  unfold ownParts
  ihave Hslot := (Entails.of_eq (bigSepL_both heads _ _)) $$ Hslot
  icases Hslot with ⟨Hslot, Hsrc⟩
  ihave Hsrc := (Entails.of_eq (bigSepL_both heads _ _)) $$ Hsrc
  icases Hsrc with ⟨Hs1, Hs2⟩
  ihave H1 := (Entails.of_eq (bigSepL_both heads _ _).symm) $$ [Hg1 Hs1]
  · isplitl [Hg1]; · iexact Hg1
    iexact Hs1
  ihave H2 := (Entails.of_eq (bigSepL_both heads _ _).symm) $$ [Hg2 Hs2]
  · isplitl [Hg2]; · iexact Hg2
    iexact Hs2
  iapply (start_loop c own κ false (heads.flatMap (firstTwo true) ++ (halves.flatMap (secondTwo false) ++ halves.flatMap (secondTwo true)))) $$ [H1 HO]
  · isplitl [H1]; · iexact H1
    isplitl [HO]; · iexact HO
    unfold known
    isplitr
    · iexact HR
    · iexact HL
  iintro ⟨Hl1, HO, -⟩
  iapply (start_loop c own κ true (halves.flatMap (secondTwo false) ++ halves.flatMap (secondTwo true))) $$ [H2 HO]
  · isplitl [H2]; · iexact H2
    isplitl [HO]; · iexact HO
    unfold known
    isplitr
    · iexact HR
    · iexact HL
  iintro ⟨Hl2, HO, -⟩
  iapply Hk
  isplitl [Hbar]; · iexact Hbar
  isplitl [Hsend]; · iexact Hsend
  isplitl [Harr]; · iexact Harr
  isplitl [Hl1 Hl2]
  · isplitl [Hl1]; · iexact Hl1
    iexact Hl2
  isplitl [Hg3 Hg4]
  · isplitl [Hg3]; · iexact Hg3
    iexact Hg4
  isplitl [Hslot]; · iexact Hslot
  isplitl [HO]; · iexact HO
  iexact Hown

/-- The sums a stage further. -/
abbrev stage1 (mask : F .f32) (q : Table F) (h : Fin 8) : Sums F := seenChunk c own 1 q h (ownSums mask q (own false c) (own true c) h)
/-- The sums another stage further. -/
abbrev stage3 (mask : F .f32) (q : Table F) (h : Fin 8) : Sums F := seenChunk c own 3 q h (stage1 c own mask q h)

/-- The slots' halves not passed on, and the slots whole, after the computation. -/
def slotsLeft : sProp 𝕄 :=
  iprop(ownSlots c own
    ∗ (bigSepL halves (fun i => iprop(slot c own false 1 (lowHead i) fullShare.left ∗ slot c own true 1 (lowHead i) fullShare.left))
      ∗ bigSepL halves (fun i => iprop(someSlab (F := F) c false 1 (highHead i) ∗ someSlab (F := F) c true 1 (highHead i))))
    ∗ (bigSepL halves (fun i => iprop(someSlab (F := F) c false 3 (lowHead i) ∗ someSlab (F := F) c true 3 (lowHead i)))
      ∗ bigSepL halves (fun i => iprop(slot c own false 3 (highHead i) fullShare.left ∗ slot c own true 3 (highHead i) fullShare.left)))
    ∗ (bigSepL halves (fun i => iprop(someSlab (F := F) c false 2 (lowHead i) ∗ someSlab (F := F) c true 2 (lowHead i)))
      ∗ bigSepL halves (fun i => iprop(someSlab (F := F) c false 2 (highHead i) ∗ someSlab (F := F) c true 2 (highHead i)))))

theorem sums_some (P : Fin 8 → Sums F) : iprop(bigSepL heads (fun h => sums c h (P h)))
    ⊢ iprop(bigSepL heads (fun h => iprop(∃ v, holds (F := F) c lRef (row h) v)) ∗ bigSepL heads (fun h => iprop(∃ v, holds (F := F) c accRef (cols h) v))) := by
  rw [← bigSepL_both]
  refine bigSepL_mono fun h _ => ?_
  unfold sums
  iintro ⟨H1, H2⟩
  isplitl [H1]
  · iexists _; iexact H1
  · iexists _; iexact H2

/-- The computation: every chunk seen, the context, the result; and the second hops on the way. -/
theorem compute (qs mask : F .f32) (x wq wo : Table F) (k : Body F) :
    iprop(known own κ ∗ (owing c (halves.flatMap (secondTwo false) ++ halves.flatMap (secondTwo true)) ∗ each (arriving (F := F) c)
          ∗ (pairS false (going (F := F) c) ∗ pairS true (going (F := F) c)) ∗ ownSlots c own)
        ∗ (Whole c cc0_stg0_0 x ∗ Whole c cc0_stg1_0 wq ∗ Whole c cc0_stg4_0 wo) ∗ (∃ f, Whole (F := F) c cc0_stg5_0 f) ∗ scratch (F := F) c)
      ⊢ iprop((iprop((owing c [] ∗ each (fun j => atPos ER (recvCell c j) (0 + 1) ∅ 0)
          ∗ (pairS false (leaving (F := F) c) ∗ pairS true (leaving (F := F) c)) ∗ slotsLeft c own)
          ∗ (Whole c cc0_stg0_0 x ∗ Whole c cc0_stg1_0 wq ∗ Whole c cc0_stg4_0 wo) ∗ Whole c cc0_stg5_0 (result c own qs mask x wq wo)
          ∗ scratch (F := F) c) -∗ Run D c k Q)
        -∗ Run D c (makeQueries qs <| makeBiases mask <| loop diagonal heads <|
          loop (slot1Low c) halves <| loop (slot1High c) halves <|
          loop (slot3Low c) halves <| loop (slot3High c) halves <|
          loop (slot2Low c) halves <| loop (slot2High c) halves <|
          loop finish heads <| project k) Q) := by
  iintro ⟨#HK, ⟨HO, Harr, ⟨Hg3, Hg4⟩, Hslot⟩, ⟨Hx, Hwq, Hwo⟩, Hout, Hq, Hb, ⟨%a₀, Ha⟩, ⟨%x₀, Hctx⟩, ⟨%l₀, Hl⟩⟩ Hk
  unfold each
  icases Harr with ⟨HaF, HaT, HbF, HbT⟩
  ihave HaF := (Entails.of_eq (bigSepL_heads _)) $$ HaF
  icases HaF with ⟨HaFl, HaFh⟩
  ihave HaT := (Entails.of_eq (bigSepL_heads _)) $$ HaT
  icases HaT with ⟨HaTl, HaTh⟩
  iapply (makeQueries_step c qs x wq) $$ [Hx Hwq Hq]
  · isplitl [Hx]; · iexact Hx
    isplitl [Hwq]; · iexact Hwq
    iexact Hq
  iintro ⟨Hx, Hwq, Hq⟩
  iapply (makeBiases_step c mask) $$ Hb
  iintro Hb
  ihave Ha := (heads_split c accRef cols acc_disjoint acc_cover) $$ [Ha]
  · iexists a₀; iexact Ha
  ihave Hl := (heads_split c lRef row l_disjoint l_cover) $$ [Hl]
  · iexists l₀; iexact Hl
  ihave H := (Entails.of_eq (bigSepL_both heads _ _).symm) $$ [Hl Ha]
  · isplitl [Hl]; · iexact Hl
    iexact Ha
  ihave Hslot := (Entails.of_eq (bigSepL_both heads _ _)) $$ Hslot
  icases Hslot with ⟨Hs1, Hs2⟩
  ihave H := (Entails.of_eq (bigSepL_both heads _ _).symm) $$ [Hs2 H]
  · isplitl [Hs2]; · iexact Hs2
    iexact H
  ihave H := (Entails.of_eq (bigSepL_both heads _ _).symm) $$ [Hs1 H]
  · isplitl [Hs1]; · iexact Hs1
    iexact H
  iapply (diagonal_loop c own mask (queries qs x wq)) $$ [H Hq Hb]
  · isplitl [H]; · iexact H
    isplitl [Hq]; · iexact Hq
    iexact Hb
  iintro ⟨H, Hq, Hb⟩
  ihave H := (Entails.of_eq (bigSepL_both heads _ _)) $$ H
  icases H with ⟨Hs1, H⟩
  ihave H := (Entails.of_eq (bigSepL_both heads _ _)) $$ H
  icases H with ⟨Hs2, H⟩
  ihave Hslot := (Entails.of_eq (bigSepL_both heads _ _).symm) $$ [Hs1 Hs2]
  · isplitl [Hs1]; · iexact Hs1
    iexact Hs2
  ihave H := (Entails.of_eq (bigSepL_heads _)) $$ H
  icases H with ⟨Hlow, Hhigh⟩
  -- the left neighbour's chunk
  ihave H := (Entails.of_eq (bigSepL_both halves _ _).symm) $$ [Hg3 Hlow]
  · isplitl [Hg3]; · iexact Hg3
    iexact Hlow
  ihave H := (Entails.of_eq (bigSepL_both halves _ _).symm) $$ [HaFl H]
  · isplitl [HaFl]; · iexact HaFl
    iexact H
  iapply (slot1Low_loop c own κ (queries qs x wq) (ownSums mask (queries qs x wq) (own false c) (own true c))) $$ [H HO Hq]
  · isplitl [H]; · iexact H
    isplitl [HO]; · iexact HO
    isplitr; · iexact HK
    iexact Hq
  iintro ⟨H, HO, -, Hq⟩
  ihave H := (passed_parts c own false 1 rfl lowHead (fun _ => rfl) (queries qs x wq) (ownSums mask (queries qs x wq) (own false c) (own true c))) $$ H
  icases H with ⟨RFl, Hv3, S1l, Hlow⟩
  ihave H := (Entails.of_eq (bigSepL_both halves _ _).symm) $$ [HaFh Hhigh]
  · isplitl [HaFh]; · iexact HaFh
    iexact Hhigh
  iapply (landed_loop c own κ (f := slot1High c) (fun i => .first false false (highHead i)) (fun i => .first false true (highHead i)) 1 highHead
      (fun _ _ => rfl) (fun _ => BI.Entails.refl _) (fun _ => BI.Entails.refl _) (halves.flatMap (secondTwo true))
      (fun i j hj => by rw [second_hop _ _ j hj]; exact ⟨(by decide : 2 < 3), (by decide : 2 < 3)⟩)
      (queries qs x wq) (ownSums mask (queries qs x wq) (own false c) (own true c))) $$ [H HO Hq]
  · isplitl [H]; · iexact H
    isplitl [HO]; · iexact HO
    isplitr; · iexact HK
    iexact Hq
  iintro ⟨H, HO, -, Hq⟩
  ihave H := (landed_parts c own (fun i => .first false false (highHead i)) (fun i => .first false true (highHead i)) 1 highHead (queries qs x wq)
    (ownSums mask (queries qs x wq) (own false c) (own true c))) $$ H
  icases H with ⟨RFh, S1h, Hhigh⟩
  -- the right neighbour's chunk
  ihave H := (Entails.of_eq (bigSepL_both halves _ _).symm) $$ [HaTl Hlow]
  · isplitl [HaTl]; · iexact HaTl
    iexact Hlow
  iapply (landed_loop c own κ (f := slot3Low c) (fun i => .first true false (lowHead i)) (fun i => .first true true (lowHead i)) 3 lowHead
      (fun _ _ => rfl) (fun _ => BI.Entails.refl _) (fun _ => BI.Entails.refl _) (halves.flatMap (secondTwo true))
      (fun i j hj => by rw [second_hop _ _ j hj]; exact ⟨(by decide : 2 < 3), (by decide : 2 < 3)⟩)
      (queries qs x wq) (stage1 c own mask (queries qs x wq))) $$ [H HO Hq]
  · isplitl [H]; · iexact H
    isplitl [HO]; · iexact HO
    isplitr; · iexact HK
    iexact Hq
  iintro ⟨H, HO, -, Hq⟩
  ihave H := (landed_parts c own (fun i => .first true false (lowHead i)) (fun i => .first true true (lowHead i)) 3 lowHead (queries qs x wq)
    (stage1 c own mask (queries qs x wq))) $$ H
  icases H with ⟨RTl, S3l, Hlow⟩
  ihave H := (Entails.of_eq (bigSepL_both halves _ _).symm) $$ [Hg4 Hhigh]
  · isplitl [Hg4]; · iexact Hg4
    iexact Hhigh
  ihave H := (Entails.of_eq (bigSepL_both halves _ _).symm) $$ [HaTh H]
  · isplitl [HaTh]; · iexact HaTh
    iexact H
  iapply (slot3High_loop c own κ (queries qs x wq) (stage1 c own mask (queries qs x wq))) $$ [H HO Hq]
  · isplitl [H]; · iexact H
    isplitl [HO]; · iexact HO
    isplitr; · iexact HK
    iexact Hq
  iintro ⟨H, HO, -, Hq⟩
  ihave H := (passed_parts c own true 3 rfl highHead (fun _ => rfl) (queries qs x wq) (stage1 c own mask (queries qs x wq))) $$ H
  icases H with ⟨RTh, Hv4, S3h, Hhigh⟩
  -- the opposite device's chunk
  ihave H := (Entails.of_eq (bigSepL_both halves _ _).symm) $$ [HbF Hlow]
  · isplitl [HbF]; · iexact HbF
    iexact Hlow
  iapply (landed_loop c own κ (f := slot2Low c) (fun i => .second false false i) (fun i => .second false true i) 2 lowHead
      (fun _ _ => rfl) (fun _ => BI.Entails.refl _) (fun _ => BI.Entails.refl _) [] (fun i j hj => absurd hj List.not_mem_nil)
      (queries qs x wq) (stage3 c own mask (queries qs x wq))) $$ [H HO Hq]
  · isplitl [H]; · iexact H
    isplitl [HO]; · iexact HO
    isplitr; · iexact HK
    iexact Hq
  iintro ⟨H, HO, -, Hq⟩
  ihave H := (landed_parts c own (fun i => .second false false i) (fun i => .second false true i) 2 lowHead (queries qs x wq)
    (stage3 c own mask (queries qs x wq))) $$ H
  icases H with ⟨SF, S2l, Hlow⟩
  ihave H := (Entails.of_eq (bigSepL_both halves _ _).symm) $$ [HbT Hhigh]
  · isplitl [HbT]; · iexact HbT
    iexact Hhigh
  iapply (landed_loop c own κ (f := slot2High c) (fun i => .second true false i) (fun i => .second true true i) 2 highHead
      (fun _ _ => rfl) (fun _ => BI.Entails.refl _) (fun _ => BI.Entails.refl _) [] (fun i j hj => absurd hj List.not_mem_nil)
      (queries qs x wq) (stage3 c own mask (queries qs x wq))) $$ [H HO Hq]
  · isplitl [H]; · iexact H
    isplitl [HO]; · iexact HO
    isplitr; · iexact HK
    iexact Hq
  iintro ⟨H, HO, -, Hq⟩
  ihave H := (landed_parts c own (fun i => .second true false i) (fun i => .second true true i) 2 highHead (queries qs x wq)
    (stage3 c own mask (queries qs x wq))) $$ H
  icases H with ⟨ST, S2h, Hhigh⟩
  -- the context and the result
  ihave H := (Entails.of_eq (bigSepL_heads (fun h => sums c h (total c own mask (queries qs x wq) h))).symm) $$ [Hlow Hhigh]
  · isplitl [Hlow]; · iexact Hlow
    iexact Hhigh
  ihave Hctx := (heads_split c ctxRef cols ctx_disjoint ctx_cover) $$ [Hctx]
  · iexists x₀; iexact Hctx
  ihave H := (Entails.of_eq (bigSepL_both heads _ _).symm) $$ [H Hctx]
  · isplitl [H]; · iexact H
    iexact Hctx
  iapply (finish_loop c (total c own mask (queries qs x wq))) $$ [H]
  · isplitl [H]; · iexact H
    iempintro
  iintro ⟨H, -⟩
  ihave H := (Entails.of_eq (bigSepL_both heads _ _)) $$ H
  icases H with ⟨Hsums, Hctx⟩
  ihave Hctx := (heads_known c ctxRef cols ctx_disjoint ctx_cover (context c own mask (queries qs x wq))
    (fun h => normalised (total c own mask (queries qs x wq) h).2 (total c own mask (queries qs x wq) h).1)
    (fun h => funext fun i => context_head c own mask (queries qs x wq) h i)) $$ Hctx
  ihave Hsums := (sums_some c (total c own mask (queries qs x wq))) $$ Hsums
  icases Hsums with ⟨Hl, Ha⟩
  ihave Hl := (heads_join c lRef row l_disjoint l_cover l₀) $$ Hl
  ihave Ha := (heads_join c accRef cols acc_disjoint acc_cover a₀) $$ Ha
  iapply (project_step c (context c own mask (queries qs x wq)) wo) $$ [Hctx Hwo Hout]
  · isplitl [Hctx]; · iexact Hctx
    isplitl [Hwo]; · iexact Hwo
    iexact Hout
  iintro ⟨Hctx, Hwo, Hout⟩
  iapply Hk
  unfold slotsLeft
  isplitl [HO RFl RFh RTl RTh SF ST Hv3 Hv4 Hslot S1l S1h S3l S3h S2l S2h]
  · isplitl [HO]; · iexact HO
    isplitl [RFl RFh RTl RTh SF ST]
    · isplitl [RFl RFh]
      · ihave H := (Entails.of_eq (bigSepL_heads (fun h => iprop(atPos ER (recvCell c (.first false false h)) (0 + 1) ∅ 0 ∗ atPos ER (recvCell c (.first false true h)) (0 + 1) ∅ 0))).symm) $$ [RFl RFh]
        · isplitl [RFl]; · iexact RFl
          iexact RFh
        iexact H
      isplitl [RTl RTh]
      · ihave H := (Entails.of_eq (bigSepL_heads (fun h => iprop(atPos ER (recvCell c (.first true false h)) (0 + 1) ∅ 0 ∗ atPos ER (recvCell c (.first true true h)) (0 + 1) ∅ 0))).symm) $$ [RTl RTh]
        · isplitl [RTl]; · iexact RTl
          iexact RTh
        iexact H
      isplitl [SF]; · iexact SF
      iexact ST
    isplitl [Hv3 Hv4]
    · isplitl [Hv3]; · iexact Hv3
      iexact Hv4
    isplitl [Hslot]; · iexact Hslot
    isplitl [S1l S1h]
    · isplitl [S1l]; · iexact S1l
      iexact S1h
    isplitl [S3l S3h]
    · isplitl [S3l]; · iexact S3l
      iexact S3h
    isplitl [S2l]; · iexact S2l
    iexact S2h
  isplitl [Hx Hwq Hwo]
  · isplitl [Hx]; · iexact Hx
    isplitl [Hwq]; · iexact Hwq
    iexact Hwo
  isplitl [Hout]; · iexact Hout
  isplitl [Hq]; · iexists _; iexact Hq
  isplitl [Hb]; · iexists _; iexact Hb
  isplitl [Ha]; · iexact Ha
  isplitl [Hctx]; · iexists _; iexact Hctx
  iexact Hl

end Attn
-- ==== Proof.Whole.lean ====
/- The whole body. -/
module

public import proofs.«01_k».proof.Proof.Compute

@[expose] public section

set_option maxRecDepth 16384

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ UU ℕ

variable {D : Defs nD τ sig (Elt F) Λ₀} (c : Dev nD) {Q : Post F} (own : Bool → Dev nD → Table F) (κ : GSem nD τ sig → ℕ)

/-- Two columns of copies, in pairs. -/
theorem columns {α : Type} (l : List α) (f g : α → Copy) (X Y : Copy → sProp 𝕄) :
    iprop(bigSepL l (fun a => iprop(X (f a) ∗ X (g a))) ∗ bigSepL l (fun a => iprop(Y (f a) ∗ Y (g a))))
      = iprop(bigSepL l (fun a => iprop(X (f a) ∗ Y (f a))) ∗ bigSepL l (fun a => iprop(X (g a) ∗ Y (g a)))) := by
  simp only [bigSepL_both]
  apply eq_of_entails
  · iintro ⟨⟨A, B⟩, C, E⟩
    isplitl [A C]
    · isplitl [A]; · iexact A
      iexact C
    · isplitl [B]; · iexact B
      iexact E
  · iintro ⟨⟨A, B⟩, C, E⟩
    isplitl [A C]
    · isplitl [A]; · iexact A
      iexact C
    · isplitl [B]; · iexact B
      iexact E

/-- The waits for the departures of one group of copies, keys first. -/
theorem sent_two {α : Type} (f g : α → Copy) (l : List α) (k : Body F) :
    iprop(bigSepL l (fun a => iprop(atPos ER (sendCell c (f a)) 0 ∅ 0 ∗ atPos ER (sendCell c (g a)) 0 ∅ 0))
        ∗ bigSepL l (fun a => iprop(leaving (F := F) c (f a) ∗ leaving (F := F) c (g a))) ∗ owing c [] ∗ known own κ)
      ⊢ iprop((iprop(bigSepL l (fun a => iprop(atPos ER (sendCell c (f a)) (0 + 1) ∅ 0 ∗ atPos ER (sendCell c (g a)) (0 + 1) ∅ 0))
            ∗ bigSepL l (fun a => iprop(sentPay own c (f a) ∗ sentPay own c (g a))) ∗ owing c []) -∗ Run D c k Q)
        -∗ Run D c (loop (fun a => awaitSent (f a)) l <| loop (fun a => awaitSent (g a)) l k) Q) := by
  iintro ⟨H1, H2, HO, #HK⟩ Hk
  ihave H := (Entails.of_eq (columns l f g (fun j => atPos ER (sendCell c j) 0 ∅ 0) (leaving (F := F) c))) $$ [H1 H2]
  · isplitl [H1]; · iexact H1
    iexact H2
  icases H with ⟨H1, H2⟩
  iapply (sent_loop c own κ f l) $$ [H1 HO]
  · isplitl [H1]; · iexact H1
    isplitl [HO]; · iexact HO
    iexact HK
  iintro ⟨H1, HO, -⟩
  iapply (sent_loop c own κ g l) $$ [H2 HO]
  · isplitl [H2]; · iexact H2
    isplitl [HO]; · iexact HO
    iexact HK
  iintro ⟨H2, HO, -⟩
  ihave H := (Entails.of_eq (columns l f g (fun j => atPos ER (sendCell c j) (0 + 1) ∅ 0) (sentPay own c)).symm) $$ [H1 H2]
  · isplitl [H1]; · iexact H1
    iexact H2
  icases H with ⟨H1, H2⟩
  iapply Hk
  isplitl [H1]; · iexact H1
  isplitl [H2]; · iexact H2
  iexact HO

/-- All the waits for departures. -/
theorem departures (k : Body F) :
    iprop(each (fun j => atPos ER (sendCell c j) 0 ∅ 0) ∗ (pairF false (leaving (F := F) c) ∗ pairF true (leaving (F := F) c))
        ∗ (pairS false (leaving (F := F) c) ∗ pairS true (leaving (F := F) c)) ∗ owing c [] ∗ known own κ)
      ⊢ iprop((iprop(each (fun j => atPos ER (sendCell c j) (0 + 1) ∅ 0) ∗ each (sentPay own c) ∗ owing c []) -∗ Run D c k Q)
        -∗ Run D c (loop (fun h => awaitSent (.first false false h)) heads <| loop (fun h => awaitSent (.first false true h)) heads <|
          loop (fun i => awaitSent (.second false false i)) halves <| loop (fun i => awaitSent (.second false true i)) halves <|
          loop (fun h => awaitSent (.first true false h)) heads <| loop (fun h => awaitSent (.first true true h)) heads <|
          loop (fun i => awaitSent (.second true false i)) halves <| loop (fun i => awaitSent (.second true true i)) halves k) Q) := by
  unfold each
  iintro ⟨⟨A1, A2, A3, A4⟩, ⟨L1, L2⟩, ⟨L3, L4⟩, HO, #HK⟩ Hk
  iapply (sent_two c own κ (fun h => .first false false h) (fun h => .first false true h) heads) $$ [A1 L1 HO]
  · isplitl [A1]; · iexact A1
    isplitl [L1]; · iexact L1
    isplitl [HO]; · iexact HO
    iexact HK
  iintro ⟨A1, L1, HO⟩
  iapply (sent_two c own κ (fun i => .second false false i) (fun i => .second false true i) halves) $$ [A3 L3 HO]
  · isplitl [A3]; · iexact A3
    isplitl [L3]; · iexact L3
    isplitl [HO]; · iexact HO
    iexact HK
  iintro ⟨A3, L3, HO⟩
  iapply (sent_two c own κ (fun h => .first true false h) (fun h => .first true true h) heads) $$ [A2 L2 HO]
  · isplitl [A2]; · iexact A2
    isplitl [L2]; · iexact L2
    isplitl [HO]; · iexact HO
    iexact HK
  iintro ⟨A2, L2, HO⟩
  iapply (sent_two c own κ (fun i => .second true false i) (fun i => .second true true i) halves) $$ [A4 L4 HO]
  · isplitl [A4]; · iexact A4
    isplitl [L4]; · iexact L4
    isplitl [HO]; · iexact HO
    iexact HK
  iintro ⟨A4, L4, HO⟩
  iapply Hk
  isplitl [A1 A2 A3 A4]
  · isplitl [A1]; · iexact A1
    isplitl [A2]; · iexact A2
    isplitl [A3]; · iexact A3
    iexact A4
  isplitl [L1 L2 L3 L4]
  · isplitl [L1]; · iexact L1
    isplitl [L2]; · iexact L2
    isplitl [L3]; · iexact L3
    iexact L4
  iexact HO

/-- The slots come together again. -/
theorem slots_together : iprop(slotsLeft c own ∗ each (sentPay own c)) ⊢ iprop(someKv (F := F) c false ∗ someKv (F := F) c true) := by
  unfold slotsLeft each
  iintro ⟨⟨H0, ⟨H1l, H1h⟩, ⟨H3l, H3h⟩, ⟨H2l, H2h⟩⟩, F1, F2, G1, G2⟩
  iapply (places_kv c (kvFull own false c) (kvFull own true c))
  isplitl [H0 F1 F2]
  · ihave H := (Entails.of_eq (bigSepL_both heads _ _).symm) $$ [F1 F2]
    · isplitl [F1]; · iexact F1
      iexact F2
    ihave H := (Entails.of_eq (bigSepL_both heads _ _).symm) $$ [H0 H]
    · isplitl [H0]; · iexact H0
      iexact H
    ihave H := (bigSepL_mono (l := heads) (fun h _ => parts_own c own h)) $$ H
    iexact H
  unfold each
  isplitl [H1l H1h G1]
  · ihave G1 := (Entails.of_eq (bigSepL_both halves _ _)) $$ G1
    icases G1 with ⟨Gk, Gv⟩
    ihave H := (passed_join c own false 1 lowHead (fun _ => BI.Entails.refl _) (fun _ => BI.Entails.refl _)) $$ [H1l Gk Gv]
    · isplitl [H1l]; · iexact H1l
      isplitl [Gk]; · iexact Gk
      iexact Gv
    ihave H := (Entails.of_eq (bigSepL_heads (fun h => iprop(someSlab (F := F) c false 1 h ∗ someSlab (F := F) c true 1 h))).symm) $$ [H H1h]
    · isplitl [H]; · iexact H
      iexact H1h
    iexact H
  isplitl [H3l H3h G2]
  · ihave G2 := (Entails.of_eq (bigSepL_both halves _ _)) $$ G2
    icases G2 with ⟨Gk, Gv⟩
    ihave H := (passed_join c own true 3 highHead (fun _ => BI.Entails.refl _) (fun _ => BI.Entails.refl _)) $$ [H3h Gk Gv]
    · isplitl [H3h]; · iexact H3h
      isplitl [Gk]; · iexact Gk
      iexact Gv
    ihave H := (Entails.of_eq (bigSepL_heads (fun h => iprop(someSlab (F := F) c false 3 h ∗ someSlab (F := F) c true 3 h))).symm) $$ [H H3l]
    · isplitl [H3l]; · iexact H3l
      iexact H
    iexact H
  isplitl [H2l]; · iexact H2l
  iexact H2h

/-- The whole body, from what a device starts with to what it ends with. -/
theorem body_run (qs mask : F .f32) (x wq wo : Table F) :
    iprop(before c own κ x wq wo ∗ (after c own qs mask x wq wo -∗ |={Set.univ}=> Q ⟨⟩)) ⊢ Run D c (body qs mask) Q := by
  unfold before inputs Run body
  simp only [wp_deviceId]
  unfold bodyAt
  iintro ⟨⟨#HK, Hbar, HO, Hc, Hkv, ⟨Hx, Hwq, Hown, Hwo⟩, Hout, Hscr⟩, HQ⟩
  iapply (exchange (D := D) c own κ) $$ [Hbar HO Hc Hkv Hown]
  · isplitr; · iexact HK
    isplitl [Hbar]; · iexact Hbar
    isplitl [HO]; · iexact HO
    isplitl [Hc]; · iexact Hc
    isplitl [Hkv]; · iexact Hkv
    iexact Hown
  iintro ⟨Hbar, Hsend, Harr, Hl, Hg, Hslot, HO, Hown⟩
  iapply (compute (D := D) c own κ qs mask x wq wo) $$ [HO Harr Hg Hslot Hx Hwq Hwo Hout Hscr]
  · isplitr; · iexact HK
    isplitl [HO Harr Hg Hslot]
    · isplitl [HO]; · iexact HO
      isplitl [Harr]; · iexact Harr
      isplitl [Hg]; · iexact Hg
      iexact Hslot
    isplitl [Hx Hwq Hwo]
    · isplitl [Hx]; · iexact Hx
      isplitl [Hwq]; · iexact Hwq
      iexact Hwo
    isplitl [Hout]; · iexact Hout
    iexact Hscr
  iintro ⟨⟨HO, Hrecv, Hl', Hslot⟩, ⟨Hx, Hwq, Hwo⟩, Hout, Hscr⟩
  iapply (departures (D := D) c own κ) $$ [Hsend Hl Hl' HO]
  · isplitl [Hsend]; · iexact Hsend
    isplitl [Hl]; · iexact Hl
    isplitl [Hl']; · iexact Hl'
    isplitl [HO]; · iexact HO
    iexact HK
  iintro ⟨Hsend, Hpay, HO⟩
  ihave Hkv := (slots_together c own) $$ [Hslot Hpay]
  · isplitl [Hslot]; · iexact Hslot
    iexact Hpay
  unfold Run
  simp only [wp_ret]
  iapply HQ
  unfold after inputs
  isplitl [Hbar]; · iexact Hbar
  isplitl [HO]; · iexact HO
  isplitl [Hsend Hrecv]
  · isplitl [Hsend]; · iexact Hsend
    iexact Hrecv
  isplitl [Hkv]; · iexact Hkv
  isplitl [Hx Hwq Hwo Hown]
  · isplitl [Hx]; · iexact Hx
    isplitl [Hwq]; · iexact Hwq
    isplitl [Hown]; · iexact Hown
    iexact Hwo
  isplitl [Hout]; · iexact Hout
  iexact Hscr

end Attn
-- ==== Proof.Region.lean ====
/- The kernel as a region of the program. -/
module

public import proofs.«01_k».proof.Proof.Whole
public import proofs.«01_k».proof.Proof.Gen.Kernel.Launch
public import Idealize.ShloMosaic.Lib.Pipeline.FrameBody
public import Idealize.ShloMosaic.Lib.Tactic
public import Idealize.ShloMosaic.Lib.Pipeline.RegionTalk
public import Idealize.ShloMosaic.Lib.Pipeline.ValueKit

@[expose] public section

set_option maxRecDepth 16384

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (qs mask : F .f32)

/-! ## What the arrays hold -/

/-- A device's buffers at launch. -/
abbrev V₀ (c : Dev nD) : Valuation τ sig (Elt F) := fun b => m ((c : Dev nD), b)
/-- After the reshapes before the kernel. -/
abbrev V₁ (c : Dev nD) : Valuation τ sig (Elt F) := StableHlo.after hostOps0 (V₀ m c)

def xOf (c : Dev nD) : Table F := V₁ m c (Proc.devRef .tc main_v1)
def wqOf (c : Dev nD) : Table F := V₁ m c (Proc.devRef .tc main_arg1)
def woOf (c : Dev nD) : Table F := V₁ m c (Proc.devRef .tc main_arg4)
/-- A device's own chunk of the keys or the values. -/
def ownOf (b : Bool) (c : Dev nD) : Table F := match b with
  | false => V₁ m c (Proc.devRef .tc main_v2)
  | true => V₁ m c (Proc.devRef .tc main_v3)

/-- What the kernel leaves in its result. -/
def outOf (c : Dev nD) : S1024x1024.Idx → F .f32 := result c (ownOf m) qs mask (xOf m c) (wqOf m c) (woOf m c)

/-- After the kernel. -/
abbrev V₂ (c : Dev nD) : Valuation τ sig (Elt F) := Function.update (V₁ m c) (Proc.devRef .tc main_v4) (outOf m qs mask c)

/-! ## Before and after the kernel -/

/-- What a device brings to the kernel, before its semaphores come. -/
def carried (c : Dev nD) : sProp 𝕄 :=
  iprop(∃ κ, records (ownOf m) κ ∗ perBarrier (F := F) c
    ∗ each (fun j => iprop((openTok ER (sendCell c j) ∗ openTok ER (recvCell c j))
        ∗ (dutyTok ER (sendCell c j) 0 false ∗ dutyTok ER (recvCell (j.target c) j) 0 false)
        ∗ cred (tallyAt (recvCell c j) () (credit j.buf)))))

/-- The same with the semaphores. -/
def opened (c : Dev nD) : sProp 𝕄 :=
  iprop(∃ κ, known (ownOf m) κ ∗ perBarrier (F := F) c ∗ each (perCopy (F := F) c))

/-- A core's buffers that no window stages. -/
abbrev restBufs (c : Dev nD) : sProp 𝕄 := Pipeline.scopedRest spec0 c

/-- The windows at the one point: inputs as fetched, the result. -/
def leaves (c : Dev nD) : (w : Fin 6) → (spec0 w).block.Idx → Elt F (spec0 w).elt
  | 0 => xOf m c
  | 1 => wqOf m c
  | 2 => ownOf m false c
  | 3 => ownOf m true c
  | 4 => woOf m c
  | 5 => outOf m qs mask c

/-- The kernel's one point. -/
def dat (c : Dev nD) : Dat τ (Elt F) Unit ℕ UU ℕ cfg0 c where
  A w := V₁ m c (Proc.devRef .tc (Pipeline.arrRef spec0 w))
  after w _ := leaves m qs mask c w
  Φ t := if t.val = 0 then iprop(opened m c ∗ restBufs (F := F) c ∗ ∃ r, prngReg c r)
    else iprop((semVal (barCell c) 0 ∗ Pipeline.ownSems0 keySem c) ∗ restBufs (F := F) c ∗ ∃ r, prngReg c r)
  q _ := fullShare
  owed t := if t.val = 0 then O₀ c else 0

abbrev pdats : (p : Fin 1) → (c : Dev nD) → Dat τ (Elt F) Unit ℕ UU ℕ (Pipeline.pin (pcfgs (F := F)) (fun p => (cfgs p).toPCfg_adm) p) c :=
  fun _ c => dat m qs mask c

theorem dat_first (c : Dev nD) : (dat m qs mask c).Φ t0_0.castSucc = iprop(opened m c ∗ restBufs (F := F) c ∗ ∃ r, prngReg c r) := by
  dsimp only [dat]; exact if_pos rfl
theorem dat_last (c : Dev nD) : (dat m qs mask c).Φ t0_0.succ
    = iprop((semVal (barCell c) 0 ∗ Pipeline.ownSems0 keySem c) ∗ restBufs (F := F) c ∗ ∃ r, prngReg c r) := by
  dsimp only [dat]; exact if_neg (by decide)
theorem owed_first (c : Dev nD) : (dat m qs mask c).owed t0_0.castSucc = O₀ c := by dsimp only [dat]; exact if_pos rfl
theorem owed_last (c : Dev nD) : (dat m qs mask c).owed t0_0.succ = 0 := by dsimp only [dat]; exact if_neg (by decide)

/-! ## The windows: each is its whole array -/

/-- The one block of a window starts at its array's origin. -/
theorem index_zero : (∀ a, win0_0.index t0_0 a = 0) ∧ (∀ a, win0_1.index t0_0 a = 0) ∧ (∀ a, win0_2.index t0_0 a = 0)
    ∧ (∀ a, win0_3.index t0_0 a = 0) ∧ (∀ a, win0_4.index t0_0 a = 0) ∧ ∀ a, win0_5.index t0_0 a = 0 := by decide +kernel

theorem emb0 (i : (cfg0.win 0).block.Idx) : ((cfg0.win 0).blk t0_0).view.emb i = i := by
  refine funext fun a => Fin.ext ?_
  blk_simp
  rw [index_zero.1 a, Nat.zero_mul, Nat.zero_add]
theorem emb1 (i : (cfg0.win 1).block.Idx) : ((cfg0.win 1).blk t0_0).view.emb i = i := by
  refine funext fun a => Fin.ext ?_
  blk_simp
  rw [index_zero.2.1 a, Nat.zero_mul, Nat.zero_add]
theorem emb2 (i : (cfg0.win 2).block.Idx) : ((cfg0.win 2).blk t0_0).view.emb i = i := by
  refine funext fun a => Fin.ext ?_
  blk_simp
  rw [index_zero.2.2.1 a, Nat.zero_mul, Nat.zero_add]
theorem emb3 (i : (cfg0.win 3).block.Idx) : ((cfg0.win 3).blk t0_0).view.emb i = i := by
  refine funext fun a => Fin.ext ?_
  blk_simp
  rw [index_zero.2.2.2.1 a, Nat.zero_mul, Nat.zero_add]
theorem emb4 (i : (cfg0.win 4).block.Idx) : ((cfg0.win 4).blk t0_0).view.emb i = i := by
  refine funext fun a => Fin.ext ?_
  blk_simp
  rw [index_zero.2.2.2.2.1 a, Nat.zero_mul, Nat.zero_add]

/-! What the body finds in the windows. -/

theorem found0 (c : Dev nD) (d) : (dat m qs mask c).before 0 t0_0 d = xOf m c := by
  rw [(dat m qs mask c).before_fetched 0 t0_0 (fetch0_0 _) d]
  exact funext fun i => congrArg (xOf m c) (emb0 i)
theorem found1 (c : Dev nD) (d) : (dat m qs mask c).before 1 t0_0 d = wqOf m c := by
  rw [(dat m qs mask c).before_fetched 1 t0_0 (fetch0_1 _) d]
  exact funext fun i => congrArg (wqOf m c) (emb1 i)
theorem found2 (c : Dev nD) (d) : (dat m qs mask c).before 2 t0_0 d = ownOf m false c := by
  rw [(dat m qs mask c).before_fetched 2 t0_0 (fetch0_2 _) d]
  exact funext fun i => congrArg (ownOf m false c) (emb2 i)
theorem found3 (c : Dev nD) (d) : (dat m qs mask c).before 3 t0_0 d = ownOf m true c := by
  rw [(dat m qs mask c).before_fetched 3 t0_0 (fetch0_3 _) d]
  exact funext fun i => congrArg (ownOf m true c) (emb3 i)
theorem found4 (c : Dev nD) (d) : (dat m qs mask c).before 4 t0_0 d = woOf m c := by
  rw [(dat m qs mask c).before_fetched 4 t0_0 (fetch0_4 _) d]
  exact funext fun i => congrArg (woOf m c) (emb4 i)

/-- The result array in the end. -/
theorem written (c : Dev nD) : (dat m qs mask c).arrAt 5 cfg0.N = outOf m qs mask c :=
  (dat m qs mask c).arrAt_eq_of_after_last 5 t0_0 (by decide +kernel) _ fun j => rfl

/-- The input arrays in the end. -/
theorem unwritten (c : Dev nD) (w : Fin 6) (hw : w ≠ 5) : (dat m qs mask c).arrAt w cfg0.N = V₁ m c (Proc.devRef .tc (Pipeline.arrRef spec0 w)) := by
  refine ((dat m qs mask c).arrAt_in w ?_ _).trans rfl
  revert w; decide

/-! ## The body -/

theorem owesAt_intro {c : Dev nD} (t : Fin (cfg0.N + 1)) (O : CellTallies nD τ sig Unit) (h : (dat m qs mask c).owed t = O) :
    (iprop(∃ W, owes (c : Thread nD τ) O W) : sProp 𝕄) ⊢ iprop((dat m qs mask c).owesAt () t) := by
  unfold Dat.owesAt Pipeline.owesWithin
  rw [h]
  iintro ⟨%W, H⟩; iexists W
  isplitr
  · ipureintro; exact fun _ _ => .inl trivial
  iexact H

theorem owesAt_elim {c : Dev nD} (t : Fin (cfg0.N + 1)) (O : CellTallies nD τ sig Unit) (h : (dat m qs mask c).owed t = O) :
    (iprop((dat m qs mask c).owesAt () t) : sProp 𝕄) ⊢ iprop(∃ W, owes (c : Thread nD τ) O W) := by
  unfold Dat.owesAt Pipeline.owesWithin
  rw [h]
  iintro ⟨%W, -, H⟩; iexists W; iexact H

/-- The device's cells, each past its only round, give their counters back at zero. -/
theorem close_all (own : Bool → Dev nD → Table F) (c : Dev nD) (κ : GSem nD τ sig → ℕ) :
    iprop(records own κ ∗ atPos ER (barCell c) (0 + 1) ∅ 0 ∗ each (fun j => atPos ER (sendCell c j) (0 + 1) ∅ 0)
      ∗ each (fun j => atPos ER (recvCell c j) (0 + 1) ∅ 0))
    ⊢ (iprop(|={Set.univ}=> (semVal (barCell c) 0 ∗ Pipeline.ownSems0 keySem c)) : sProp 𝕄) := by
  have hkeys : (Pipeline.ownSems0 keySem c : sProp 𝕄)
      = iprop(bigSep Finset.univ (fun j => semVal (sendCell c j) 0) ∗ bigSep Finset.univ (fun j => semVal (recvCell c j) 0)) := by
    unfold Pipeline.ownSems0
    rw [bigSep_univ_prod, bigSep_univ_eq_bigSepL [false, true] (by decide) (by decide)]
    rfl
  have one (f : Copy → GSem nD τ sig) (hf : ∀ j, records own κ ⊢ cellInv ER (Rd own) (κ (f j)) (f j)) :
      iprop(records own κ ∗ each (fun j => atPos ER (f j) (0 + 1) ∅ 0))
        ⊢ (iprop(|={Set.univ}=> bigSep Finset.univ fun j => semVal (f j) 0) : sProp 𝕄) := by
    iintro ⟨#H, Ha⟩
    iapply (bigSep_fupd Finset.univ fun j => semVal (f j) 0)
    rw [bigSep_each]
    have step : iprop(records own κ ∗ each (fun j => atPos ER (f j) (0 + 1) ∅ 0))
        ⊢ (iprop(each fun j => iprop(|={Set.univ}=> semVal (f j) 0)) : sProp 𝕄) := by
      rw [← bigSep_each, ← bigSep_each]
      have hc : iprop(records own κ) ⊢ (iprop(bigSep Finset.univ fun _ : Copy => records own κ) : sProp 𝕄) :=
        bigSep_of_persistent _ _
      have hm : iprop(bigSep Finset.univ fun j : Copy => iprop(records own κ ∗ atPos ER (f j) (0 + 1) ∅ 0))
          ⊢ (iprop(bigSep Finset.univ fun j : Copy => iprop(|={Set.univ}=> semVal (f j) 0)) : sProp 𝕄) := by
        refine bigSep_mono fun j _ => ?_
        show iprop(records own κ ∗ atPos ER (f j) (0 + 1) ∅ 0) ⊢ (iprop(|={Set.univ}=> semVal (f j) 0) : sProp 𝕄)
        iintro ⟨#Hj, Hp⟩
        iapply (Rounds.cell_close ER (Rd own) (g := f j) (Set.mem_univ (κ (f j))) id (fun r hr => duties_later own _ r hr))
        isplitr
        · iapply (hf j); iexact Hj
        iexact Hp
      rw [bigSep_sep'] at hm
      refine BIBase.Entails.trans ?_ hm
      iintro ⟨#Hj, Hp⟩
      isplitr
      · iapply hc; iexact Hj
      iexact Hp
    iapply step
    isplitr; · iexact H
    iexact Ha
  rw [hkeys]
  iintro ⟨#H, Hb, Hs, Hr⟩
  imod (Rounds.cell_close ER (Rd own) (g := barCell c) (Set.mem_univ (κ (barCell c))) id (fun r hr => duties_later own _ r hr)) $$ [Hb] with Hb
  · isplitr
    · ihave H' := (records_bar own κ c) $$ H
      icases H' with ⟨H', -⟩
      iexact H'
    iexact Hb
  imod (one (sendCell c) (records_send own κ c)) $$ [Hs] with Hs
  · isplitr; · iexact H
    iexact Hs
  imod (one (recvCell c) (records_recv own κ c)) $$ [Hr] with Hr
  · isplitr; · iexact H
    iexact Hr
  imodintro
  isplitl [Hb]; · iexact Hb
  isplitl [Hs] <;> iassumption

/-! Each window's buffer at the one point. -/

theorem buffer0 : (cfg0.win 0).stage (cfg0.slots t0_0 0) = Memref.whole cc0_stg0_0 := rfl
theorem buffer1 : (cfg0.win 1).stage (cfg0.slots t0_0 1) = Memref.whole cc0_stg1_0 := rfl
theorem buffer2 : (cfg0.win 2).stage (cfg0.slots t0_0 2) = Memref.whole cc0_stg2_0 := rfl
theorem buffer3 : (cfg0.win 3).stage (cfg0.slots t0_0 3) = Memref.whole cc0_stg3_0 := rfl
theorem buffer4 : (cfg0.win 4).stage (cfg0.slots t0_0 4) = Memref.whole cc0_stg4_0 := rfl
theorem buffer5 : (cfg0.win 5).stage (cfg0.slots t0_0 5) = Memref.whole cc0_stg5_0 := rfl

theorem kept0 (c : Dev nD) : (someKv (F := F) c false : sProp 𝕄) = iprop(∃ f, Whole (F := F) c cc0_scratch0 f) := rfl
theorem kept1 (c : Dev nD) : (someKv (F := F) c true : sProp 𝕄) = iprop(∃ f, Whole (F := F) c cc0_scratch1 f) := rfl
theorem kept2 (c : Dev nD) (K : Table F) : (ownAt c false K : sProp 𝕄) = Whole c cc0_stg2_0 K := rfl
theorem kept3 (c : Dev nD) (K : Table F) : (ownAt c true K : sProp 𝕄) = Whole c cc0_stg3_0 K := rfl

/-- What the body is handed, as its proof wants it. -/
theorem handed (c : Dev nD) :
    iprop((dat m qs mask c).Φ t0_0.castSucc ∗ (dat m qs mask c).owesAt () t0_0.castSucc
        ∗ bigSep Finset.univ fun w : Fin 6 => iprop(∃ d, owns c ((cfg0.win w).stage (cfg0.slots t0_0 w)) fullShare ((dat m qs mask c).before w t0_0 d)))
      ⊢ iprop(∃ κ, before c (ownOf m) κ (xOf m c) (wqOf m c) (woOf m c) ∗ ∃ r, prngReg c r) := by
  rw [bigSep_W0, dat_first]
  rw [buffer0, buffer1, buffer2, buffer3, buffer4, buffer5]
  unfold before opened restBufs inputs
  rw [kept0, kept1, kept2, kept3, scopedRest0_eq]
  iintro ⟨⟨⟨%κ, HK, Hb, Hc⟩, ⟨H0, H1, H2⟩, Hp⟩, HO, ⟨%d0, W0⟩, ⟨%d1, W1⟩, ⟨%d2, W2⟩, ⟨%d3, W3⟩, ⟨%d4, W4⟩, ⟨%d5, W5⟩⟩
  ihave HO := (owesAt_elim m qs mask t0_0.castSucc (O₀ c) (owed_first m qs mask c)) $$ HO
  ihave W0 := (Entails.of_eq (by rw [found0, owns_whole])) $$ W0
  ihave W1 := (Entails.of_eq (by rw [found1, owns_whole])) $$ W1
  ihave W2 := (Entails.of_eq (by rw [found2, owns_whole])) $$ W2
  ihave W3 := (Entails.of_eq (by rw [found3, owns_whole])) $$ W3
  ihave W4 := (Entails.of_eq (by rw [found4, owns_whole])) $$ W4
  ihave W5 := (Entails.of_eq (by rw [owns_whole])) $$ W5
  iexists κ
  isplitr [Hp]
  · isplitl [HK]; · iexact HK
    isplitl [Hb]; · iexact Hb
    isplitl [HO]; · iexact HO
    isplitl [Hc]; · iexact Hc
    isplitl [H0 H1]
    · isplitl [H0]
      · iexact H0
      · iexact H1
    isplitl [W0 W1 W2 W3 W4]
    · isplitl [W0]; · iexact W0
      isplitl [W1]; · iexact W1
      isplitl [W2 W3]
      · isplitl [W2]
        · iexact W2
        · iexact W3
      iexact W4
    isplitl [W5]
    · iexists (dat m qs mask c).before 5 t0_0 d5; iexact W5
    iexact H2
  iexact Hp

/-- What it leaves, as the kernel's run wants it. -/
theorem handed_back (c : Dev nD) (κ : GSem nD τ sig → ℕ) :
    iprop(records (ownOf m) κ ∗ after c (ownOf m) qs mask (xOf m c) (wqOf m c) (woOf m c) ∗ ∃ r, prngReg c r)
      ⊢ (iprop(|={Set.univ}=> ((dat m qs mask c).Φ t0_0.succ ∗ (dat m qs mask c).owesAt () t0_0.succ
        ∗ bigSep Finset.univ fun w : Fin 6 => owns c ((cfg0.win w).stage (cfg0.slots t0_0 w)) fullShare ((dat m qs mask c).after w t0_0))) : sProp 𝕄) := by
  rw [bigSep_W0, dat_last]
  rw [buffer0, buffer1, buffer2, buffer3, buffer4, buffer5]
  rw [owns_whole, owns_whole, owns_whole, owns_whole, owns_whole, owns_whole]
  unfold after restBufs owing inputs
  rw [kept0, kept1, kept2, kept3, scopedRest0_eq]
  iintro ⟨#HK, ⟨Hb, HO, ⟨Hs, Hr⟩, ⟨H0, H1⟩, ⟨W0, W1, ⟨W2, W3⟩, W4⟩, W5, H2⟩, Hp⟩
  imod (close_all (ownOf m) c κ) $$ [Hb Hs Hr] with Hc
  · isplitr; · iexact HK
    isplitl [Hb]; · iexact Hb
    isplitl [Hs]; · iexact Hs
    iexact Hr
  imodintro
  isplitl [Hc H0 H1 H2 Hp]
  · isplitl [Hc]; · iexact Hc
    isplitl [H0 H1 H2]
    · isplitl [H0]; · iexact H0
      isplitl [H1]; · iexact H1
      iexact H2
    iexact Hp
  isplitl [HO]
  · iapply (owesAt_intro m qs mask t0_0.succ 0 (owed_last m qs mask c)); iexact HO
  isplitl [W0]; · iexact W0
  isplitl [W1]; · iexact W1
  isplitl [W2]; · iexact W2
  isplitl [W3]; · iexact W3
  isplitl [W4]; · iexact W4
  iexact W5

/-- The body does what the kernel's point asks. -/
theorem body_obligation (c : Dev nD) : BodyObligation (dat m qs mask c) (defsOf qs mask) 𝒱₀ () Set.univ := fun t => by
  obtain rfl := fin_N0 t
  refine BIBase.Entails.trans (handed m qs mask c) ?_
  show _ ⊢ Run (defsOf qs mask) c (body qs mask) _
  iintro ⟨%κ, H, Hp⟩
  have hK : before c (ownOf m) κ (xOf m c) (wqOf m c) (woOf m c)
      ⊢ iprop(records (ownOf m) κ ∗ before c (ownOf m) κ (xOf m c) (wqOf m c) (woOf m c)) := by
    unfold before known
    iintro ⟨⟨#H1, H2⟩, H3⟩
    isplitr; · iexact H1
    isplitl [H2]
    · isplitr; · iexact H1
      iexact H2
    iexact H3
  ihave H := hK $$ H
  icases H with ⟨#HK, H⟩
  iapply (body_run c (ownOf m) κ qs mask (xOf m c) (wqOf m c) (woOf m c))
  isplitl [H]; · iexact H
  iintro Ha
  iapply (handed_back m qs mask c κ)
  isplitr; · iexact HK
  isplitl [Ha]; · iexact Ha
  iexact Hp

/-! ## The region -/

theorem keySems (c : Dev nD) : (Pipeline.ownSems0 keySem c : sProp 𝕄)
    = iprop(each (fun j => semVal (sendCell c j) 0) ∗ each (fun j => semVal (recvCell c j) 0)) := by
  unfold Pipeline.ownSems0
  rw [bigSep_univ_prod, bigSep_univ_eq_bigSepL [false, true] (by decide) (by decide), ← bigSep_each, ← bigSep_each]
  rfl

/-- Opening one copy's two cells. -/
theorem open_copy (c : Dev nD) (κ : GSem nD τ sig → ℕ) (j : Copy) :
    iprop(records (ownOf m) κ
      ∗ ((openTok ER (sendCell c j) ∗ openTok ER (recvCell c j))
        ∗ (dutyTok ER (sendCell c j) 0 false ∗ dutyTok ER (recvCell (j.target c) j) 0 false)
        ∗ cred (tallyAt (recvCell c j) () (credit j.buf)))
      ∗ semVal (sendCell c j) 0 ∗ semVal (recvCell c j) 0)
    ⊢ (iprop(|={Set.univ}=> perCopy c j) : sProp 𝕄) := by
  iintro ⟨#HK, ⟨⟨Hos, Hor⟩, ⟨Hds, Hdr⟩, Hc⟩, Hs, Hr⟩
  imod (Rounds.cell_open ER (Rd (ownOf m)) (g := sendCell c j) (Set.mem_univ (κ (sendCell c j)))) $$ [Hos Hs] with ⟨Has, #Hrs⟩
  · isplitr
    · iapply (records_send (ownOf m) κ c j); iexact HK
    isplitl [Hos] <;> iassumption
  imod (Rounds.cell_open ER (Rd (ownOf m)) (g := recvCell c j) (Set.mem_univ (κ (recvCell c j)))) $$ [Hor Hr] with ⟨Har, #Hrr⟩
  · isplitr
    · iapply (records_recv (ownOf m) κ c j); iexact HK
    isplitl [Hor] <;> iassumption
  imodintro
  unfold perCopy tokens arriving
  isplitl [Has]; · iexact Has
  isplitl [Hds Hdr]
  · isplitl [Hds]; · iexact Hds
    isplitr; · iexact Hrs
    iexact Hdr
  isplitl [Har Hc]
  · isplitl [Har] <;> iassumption
  iexact Hrr

theorem region_open (c : Dev nD) :
    iprop(carried m c ∗ Pipeline.ownSems0 keySem c ∗ levAts L lv) ⊢ (iprop(|={Set.univ}=> opened m c) : sProp 𝕄) := by
  rw [keySems, ← each_both]
  unfold carried opened known
  iintro ⟨⟨%κ, #HK, Hb, Hc⟩, Hs, #HL⟩
  have step (X Y : Copy → sProp 𝕄) (h : ∀ j, iprop(records (ownOf m) κ ∗ X j ∗ Y j) ⊢ iprop(|={Set.univ}=> perCopy c j)) :
      iprop(records (ownOf m) κ ∗ each X ∗ each Y) ⊢ iprop(|={Set.univ}=> each (perCopy c)) := by
    rw [← each_both, ← bigSep_each, ← bigSep_each]
    exact BIBase.Entails.trans (bigSep_with_persistent fun j _ => h j) (bigSep_fupd _ _)
  imod (step _ _ (open_copy m c κ)) $$ [Hc Hs] with Hc
  · isplitr; · iexact HK
    isplitl [Hc]; · iexact Hc
    iexact Hs
  imodintro
  iexists κ
  isplitr
  · isplitr; · iexact HK
    iexact HL
  isplitl [Hb] <;> iassumption

theorem O₀_pos (c : Dev nD) (g : GSem nD τ sig) (u : Unit) (h : 0 < O₀ c g u) :
    (∃ j, g = recvCell (Copy.target c j) j) ∨ ∃ e, g = barCell e := by
  unfold O₀ at h
  rw [Pi.add_apply, Finsupp.add_apply, Pi.add_apply, Finsupp.add_apply] at h
  have bar (e : Dev nD) (h : 0 < tallyAt (barCell e) () 1 g u) : g = barCell e := by
    rw [tallyAt_apply] at h
    split at h
    · next hg => exact hg.1
    · exact absurd h (Nat.lt_irrefl 0)
  rcases Nat.add_pos_iff_pos_or_pos.mp h with h | h
  · rcases Nat.add_pos_iff_pos_or_pos.mp h with h | h
    · obtain ⟨j, _, hj⟩ := owed_pos c order g u h
      exact .inl ⟨j, hj⟩
    · exact .inr ⟨_, bar _ h⟩
  · exact .inr ⟨_, bar _ h⟩

theorem owed_lv (c : Dev nD) (t : Fin (cfg0.N + 1)) (g : GSem nD τ sig) (i : Unit) (h : 0 < (dat m qs mask c).owed t g i) :
    i ∈ L g ∧ 0 < lv g i := by
  dsimp only [dat] at h
  split at h
  · rcases O₀_pos c g i h with ⟨j, rfl⟩ | ⟨e, rfl⟩
    · exact ⟨by rw [L_tc]; exact Finset.mem_singleton_self _, by rw [lv_recv]; cases j <;> simp [hop]⟩
    · exact ⟨by rw [L_tc]; exact Finset.mem_singleton_self _, by rw [lv_bar]; decide⟩
  · exact absurd h (Nat.lt_irrefl 0)

/-- The copies of the pipeline's own windows wait at level zero. -/
theorem window_lv : ∀ (w : Fin 6) (s : Fin (spec0 w).nbuf) (c : Dev nD), lv ((c : Thread nD τ), .dma ((spec0 w).sem s)) () ≤ 0 := by
  decide

abbrev adm : (p : Fin 1) → (pcfgs (F := F) p).Adm := fun p => (cfgs p).toPCfg_adm

/-- The buffers outside the kernel's windows. -/
abbrev outside : Finset (DevRef τ sig) := Pipeline.ucRefs τ sig \ Pipeline.arrRefs (τ := τ) spec0

theorem V₂_at (c : Dev nD) : V₂ m qs mask c (Proc.devRef .tc main_v4) = outOf m qs mask c := Function.update_self ..
theorem V₂_ne (c : Dev nD) (b : DevRef τ sig) (h : b ≠ Proc.devRef .tc main_v4) : V₂ m qs mask c b = V₁ m c b := Function.update_of_ne h ..

theorem v4_inside : (Proc.devRef .tc main_v4 : DevRef τ sig) ∈ Pipeline.arrRefs (τ := τ) spec0 := by decide

theorem final_arrays (c : Dev nD) (w : Fin 6) :
    (dat m qs mask c).arrAt w cfg0.N = V₂ m qs mask c (Proc.devRef .tc (Pipeline.arrRef spec0 w)) := by
  by_cases hw : w = 5
  · subst hw; exact (written m qs mask c).trans (V₂_at m qs mask c).symm
  · rw [unwritten m qs mask c w hw, V₂_ne]
    revert w; decide

theorem full_share (c : Dev nD) (w : Fin 6) : (dat m qs mask c).share w = fullShare := by
  unfold Dat.share
  exact ite_self _

theorem region_in (c : Dev nD) :
    iprop(Pipeline.scopedRest (Pipeline.pin (pcfgs (F := F)) adm 0).spec c ∗ (∃ r, prngReg c r)
        ∗ StableHlo.held (c.tc : Thread nD τ) ∅ (V₁ m c) ∗ opened m c)
      ⊢ (pdats m qs mask 0 c).Φ 0 := by
  rw [show (pdats m qs mask 0 c).Φ 0 = iprop(opened m c ∗ restBufs (F := F) c ∗ ∃ r, prngReg c r) from dat_first m qs mask c]
  iintro ⟨Hr, Hp, -, Ho⟩
  isplitl [Ho]; · iexact Ho
  isplitl [Hr]; · iexact Hr
  iexact Hp

theorem region_out (c : Dev nD) :
    (pdats m qs mask 0 c).Φ (Fin.last (Pipeline.pin (pcfgs (F := F)) adm 0).N)
      ⊢ iprop(Pipeline.scopedRest (Pipeline.pin (pcfgs (F := F)) adm 0).spec c ∗ (∃ r, prngReg c r)
        ∗ StableHlo.held (c.tc : Thread nD τ) ∅ (V₂ m qs mask c) ∗ Pipeline.ownSems0 keySem c ∗ semVal (barCell c) 0) := by
  rw [show (pdats m qs mask 0 c).Φ (Fin.last _)
    = iprop((semVal (barCell c) 0 ∗ Pipeline.ownSems0 keySem c) ∗ restBufs (F := F) c ∗ ∃ r, prngReg c r) from dat_last m qs mask c]
  unfold StableHlo.held
  rw [bigSep_empty]
  iintro ⟨⟨Hb, Hk⟩, Hr, Hp⟩
  isplitl [Hr]; · iexact Hr
  isplitl [Hp]; · iexact Hp
  isplitr; · iempintro
  isplitl [Hk] <;> iassumption

set_option backward.isDefEq.respectTransparency.types false in
/-- The kernel in the program. -/
def region : Pipeline.RegionSeg (pcfgs (F := F)) adm (pdats m qs mask) () (defsOf qs mask) 𝒱₀ L lv 0 :=
  Pipeline.RegionSeg.ofTalk (pcfgs (F := F)) adm (pdats m qs mask) () (defsOf qs mask) 𝒱₀ L lv 0 keySem
    (by decide : Pipeline.OwnSemFacts spec0 keySem)
    ∅ outside (Finset.empty_subset _) launch0.toP rfl (fun c => (body_obligation m qs mask c).loose)
    (fun _ => 0) O₀ (fun c => (owed_first m qs mask c).trans (zero_add _).symm) (fun c => owed_last m qs mask c) (fun _ => rfl)
    (fun c w => full_share m qs mask c w)
    (V₁ m) (V₂ m qs mask)
    (fun c b hb => V₂_ne m qs mask c b fun h => (Finset.mem_sdiff.mp (Finset.mem_sdiff.mp hb).1).2 (h ▸ v4_inside))
    (carried m) (fun c => semVal (barCell c) 0) (opened m) (fun c => semVal (barCell c) 0) (region_open m)
    (region_in m qs mask) (region_out m qs mask)
    (fun c => by iintro H; imodintro; iexact H)
    (fun _ => 0)
    ⟨fun c w s => by rw [L_tc]; exact Finset.mem_singleton_self _, fun c w s => window_lv w s c, fun c t g i h => owed_lv m qs mask c t g i h⟩
    (fun _ => iprop(emp))
    (fun c w => rfl) (fun c w => final_arrays m qs mask c w)

/-! ## The whole program -/

/-- What a device carries past the first host operations. -/
abbrev aside (c : Dev nD) : sProp 𝕄 :=
  iprop((∃ r, prngReg c r) ∗ carried m c ∗ ∃ W, owes (c : Thread nD τ) (O₀ c) W)
/-- What it carries past the last. -/
abbrev asideEnd (c : Dev nD) : sProp 𝕄 :=
  iprop((∃ r, prngReg c r) ∗ semVal (barCell c) 0 ∗ ∃ W, owes (c : Thread nD τ) (0 : CellTallies nD τ sig Unit) W)

theorem ops0_sub : ∀ op ∈ (hostOps0 : List (HloOp τ sig (Elt F))), op.bufs ⊆ Pipeline.ucRefs τ sig := fun op h =>
  Pipeline.sub_ucRefs op (List.forall_iff_forall_mem.mp hostOps0_sub op h)
theorem ops1_sub : ∀ op ∈ (hostOps1 : List (HloOp τ sig (Elt F))), op.bufs ⊆ Pipeline.ucRefs τ sig := fun op h =>
  Pipeline.sub_ucRefs op (List.forall_iff_forall_mem.mp hostOps1_sub op h)
theorem ops0_fresh : ∀ op ∈ (hostOps0 : List (HloOp τ sig (Elt F))), op.fresh = ∅ := by
  intro op h; fin_cases h <;> rfl
theorem ops1_fresh : ∀ op ∈ (hostOps1 : List (HloOp τ sig (Elt F))), op.fresh = ∅ := by
  intro op h; fin_cases h; rfl

local notation "ℍ" => Pipeline.HostSeg (Name := ℕ) (U := UU) (pcfgs (F := F)) (defsOf qs mask) 𝒱₀ L lv

/-- The reshapes before the kernel. -/
def first : ℍ := Pipeline.HostSeg.ofOps _ _ _ _ _ (Pipeline.ucRefs τ sig) hostOps0 ops0_sub ops0_fresh (V₀ m) (aside m)
/-- The reshape after it. -/
def last : ℍ := Pipeline.HostSeg.ofOps _ _ _ _ _ (Pipeline.ucRefs τ sig) hostOps1 ops1_sub ops1_fresh (V₂ m qs mask) asideEnd

/-- The program as its three parts. -/
def parts : List (Pipeline.Seg (pcfgs (F := F)) adm (pdats m qs mask) () (defsOf qs mask) 𝒱₀ L lv) :=
  [.host (first m qs mask), .region (region m qs mask), .host (last m qs mask)]

theorem main_parts (c : Dev nD) : main (F := F) c = Pipeline.Seg.run (parts m qs mask) := by
  rw [main_chain]
  rfl

theorem split_buffers (c : Dev nD) (W : Valuation τ sig (Elt F)) :
    (StableHlo.held (c.tc : Thread nD τ) (Pipeline.ucRefs τ sig) W : sProp 𝕄)
      = iprop(StableHlo.held (c.tc : Thread nD τ) (Pipeline.arrRefs (τ := τ) spec0) W ∗ StableHlo.held (c.tc : Thread nD τ) outside W) :=
  StableHlo.held_sub_split _ (Pipeline.arrRefs_sub_ucRefs _ (by decide)) W

theorem region_pre (c : Dev nD) :
    iprop(StableHlo.held (c.tc : Thread nD τ) (Pipeline.ucRefs τ sig) (V₁ m c) ∗ aside m c) ⊢ (region m qs mask).pre c := by
  show _ ⊢ iprop(StableHlo.held (c.tc : Thread nD τ) (Pipeline.arrRefs (τ := τ) spec0) (V₁ m c) ∗ (∃ r, prngReg c r)
    ∗ (StableHlo.held (c.tc : Thread nD τ) outside (V₁ m c) ∗ emp) ∗ carried m c ∗ ∃ Wd, owes (c : Thread nD τ) (0 + O₀ c) Wd)
  rw [split_buffers, zero_add]
  iintro ⟨⟨H1, H2⟩, Hp, Hc, HO⟩
  isplitl [H1]; · iexact H1
  isplitl [Hp]; · iexact Hp
  isplitl [H2]
  · isplitl [H2]; · iexact H2
    iempintro
  isplitl [Hc] <;> iassumption

theorem region_post (c : Dev nD) :
    (region m qs mask).post c ⊢ iprop(StableHlo.held (c.tc : Thread nD τ) (Pipeline.ucRefs τ sig) (V₂ m qs mask c) ∗ asideEnd c) := by
  show iprop(StableHlo.held (c.tc : Thread nD τ) (Pipeline.arrRefs (τ := τ) spec0) (V₂ m qs mask c) ∗ (∃ r, prngReg c r)
    ∗ (StableHlo.held (c.tc : Thread nD τ) outside (V₂ m qs mask c) ∗ emp) ∗ semVal (barCell c) 0
    ∗ ∃ Wd, owes (c : Thread nD τ) (0 : CellTallies nD τ sig Unit) Wd) ⊢ _
  rw [split_buffers]
  iintro ⟨H1, Hp, ⟨H2, -⟩, Hb, HO⟩
  isplitl [H1 H2]
  · isplitl [H1] <;> iassumption
  isplitl [Hp]; · iexact Hp
  isplitl [Hb] <;> iassumption

end Attn
-- ==== Proof.Start.lean ====
/- The start of the program: the cells' invariants made and everything dealt to the devices. -/
module

public import proofs.«01_k».proof.Proof.Region

@[expose] public section

set_option maxRecDepth 16384

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ UU ℕ

variable (m : (ℓ : Loc nD τ sig) → Buf (Elt F) ℓ) (ρ : Dev nD → PrngReg) (qs mask : F .f32)

/-! ## Neighbours, as equivalences -/

theorem left_right (c : Dev nD) : left (right c) = c := by revert c; decide
theorem right_left (c : Dev nD) : right (left c) = c := by revert c; decide
def toLeft : Dev nD ≃ Dev nD := ⟨left, right, right_left, left_right⟩
def toRight : Dev nD ≃ Dev nD := ⟨right, left, left_right, right_left⟩
/-- Where a copy goes. -/
def toTarget (j : Copy) : Dev nD ≃ Dev nD := match j with
  | .first true _ _ => toLeft
  | .first false _ _ => toRight
  | .second true _ _ => toLeft
  | .second false _ _ => toRight
theorem toTarget_apply (j : Copy) (c : Dev nD) : toTarget j c = j.target c := by
  rcases j with ⟨_ | _, _, _⟩ | ⟨_ | _, _, _⟩ <;> rfl

/-- The copies' arrival cells, each dealt to the copy's sender. -/
theorem dealt (X : Dev nD → Copy → sProp 𝕄) :
    bigSep Finset.univ (fun c : Dev nD => each (X c)) = bigSep Finset.univ (fun c : Dev nD => each (fun j => X (j.target c) j)) := by
  let e : Dev nD × Copy ≃ Dev nD × Copy :=
    ⟨fun p => (toTarget p.2 p.1, p.2), fun p => ((toTarget p.2).symm p.1, p.2), fun p => by simp, fun p => by simp⟩
  have h := bigSep_univ_equiv e fun p : Dev nD × Copy => X p.1 p.2
  rw [bigSep_univ_prod, bigSep_univ_prod] at h
  rw [bigSep_congr fun c _ => (bigSep_each (X c)).symm, bigSep_congr fun c _ => (bigSep_each (fun j => X (j.target c) j)).symm, h]
  exact bigSep_congr fun c _ => bigSep_congr fun j _ => by
    show X (toTarget j c) j = X (j.target c) j
    rw [toTarget_apply]

/-! ## The cells and their tokens -/

theorem barCell_inj : Function.Injective barCell := fun _ _ h => congrArg (fun g : GSem nD τ sig => g.1.1) h
theorem keyCell_inj : Function.Injective keyCell := fun _ _ h =>
  Prod.ext (congrArg (fun g : GSem nD τ sig => g.1.1) h) (keySem_inj (congrArg Prod.snd h))

theorem cells_apart : Disjoint barCells keyCells := by
  rw [Finset.disjoint_left]
  intro g h₁ h₂
  obtain ⟨c, -, rfl⟩ := Finset.mem_image.mp h₁
  obtain ⟨p, -, h⟩ := Finset.mem_image.mp h₂
  exact keySem_ne_bar p.2 (congrArg Prod.snd h)

def barTok (p : Dev nD × Bool) : GSem nD τ sig × ℕ × Bool := (barCell p.1, 0, p.2)
def keyTok (p : Dev nD × Key) : GSem nD τ sig × ℕ × Bool := (keyCell p, 0, false)
theorem barTok_inj : Function.Injective barTok := fun _ _ h =>
  Prod.ext (barCell_inj (congrArg Prod.fst h)) (congrArg (fun t : GSem nD τ sig × ℕ × Bool => t.2.2) h)
theorem keyTok_inj : Function.Injective keyTok := fun _ _ h => keyCell_inj (congrArg Prod.fst h)
theorem toks_apart : Disjoint (Finset.univ.image barTok) (Finset.univ.image keyTok) := by
  rw [Finset.disjoint_left]
  intro g h₁ h₂
  obtain ⟨c, -, rfl⟩ := Finset.mem_image.mp h₁
  obtain ⟨p, -, h⟩ := Finset.mem_image.mp h₂
  exact keySem_ne_bar p.2 (congrArg (fun t : GSem nD τ sig × ℕ × Bool => t.1.2) h)

/-- Every duty of the protocol. -/
def toks : Finset (GSem nD τ sig × ℕ × Bool) := Finset.univ.image barTok ∪ Finset.univ.image keyTok

theorem over_keys (X : GSem nD τ sig → sProp 𝕄) :
    bigSep keyCells X = bigSep Finset.univ fun c : Dev nD => iprop(each (fun j => X (sendCell c j)) ∗ each (fun j => X (recvCell c j))) := by
  unfold keyCells
  rw [bigSep_image_of_injOn keyCell_inj.injOn, bigSep_univ_prod]
  refine bigSep_congr fun c _ => ?_
  rw [bigSep_univ_prod, bigSep_univ_eq_bigSepL [false, true] (by decide) (by decide), ← bigSep_each, ← bigSep_each]
  rfl

theorem over_bars (X : GSem nD τ sig → sProp 𝕄) : bigSep barCells X = bigSep Finset.univ fun c : Dev nD => X (barCell c) := by
  unfold barCells
  exact bigSep_image_of_injOn barCell_inj.injOn _

theorem over_toks (X : GSem nD τ sig × ℕ × Bool → sProp 𝕄) :
    bigSep toks X = iprop((bigSep Finset.univ fun c : Dev nD => iprop(X (barCell c, 0, false) ∗ X (barCell c, 0, true)))
      ∗ bigSep Finset.univ fun c : Dev nD => iprop(each (fun j => X (sendCell c j, 0, false)) ∗ each (fun j => X (recvCell c j, 0, false)))) := by
  unfold toks
  rw [bigSep_union toks_apart, bigSep_image_of_injOn barTok_inj.injOn, bigSep_image_of_injOn keyTok_inj.injOn, bigSep_univ_prod, bigSep_univ_prod]
  refine congrArg₂ _ (bigSep_congr fun c _ => ?_) (bigSep_congr fun c _ => ?_)
  · rw [bigSep_univ_eq_bigSepL [false, true] (by decide) (by decide)]
    rfl
  · rw [bigSep_univ_prod, bigSep_univ_eq_bigSepL [false, true] (by decide) (by decide), ← bigSep_each, ← bigSep_each]
    rfl

/-- A device's tokens, those of the duties it pays. -/
abbrev paying (c : Dev nD) : sProp 𝕄 :=
  iprop((dutyTok ER (barCell (left c)) 0 false ∗ dutyTok ER (barCell (right c)) 0 true)
    ∗ each (fun j => dutyTok ER (sendCell c j) 0 false) ∗ each (fun j => dutyTok ER (recvCell (j.target c) j) 0 false))

theorem toks_dealt :
    (bigSep toks (fun x => dutyTok ER x.1 x.2.1 x.2.2) : sProp 𝕄) = bigSep Finset.univ (fun c : Dev nD => paying (F := F) c) := by
  rw [over_toks, bigSep_sep', bigSep_sep', dealt fun c j => dutyTok ER (recvCell c j) 0 false,
    bigSep_univ_equiv toLeft fun c : Dev nD => (dutyTok ER (barCell c) 0 false : sProp 𝕄),
    bigSep_univ_equiv toRight fun c : Dev nD => (dutyTok ER (barCell c) 0 true : sProp 𝕄),
    ← bigSep_sep', ← bigSep_sep', ← bigSep_sep']
  rfl

/-! ## What is owed, seen from the cells -/

/-- The arrivals of the copies of `l` at a device. -/
def due (c : Dev nD) : List Copy → CellTallies nD τ sig Unit
  | [] => 0
  | j :: l => due c l + tallyAt (recvCell c j) () (credit j.buf)

/-- All that devices owe at a device's cells. -/
def dueAll (c : Dev nD) : CellTallies nD τ sig Unit := due c order + tallyAt (barCell c) () 1 + tallyAt (barCell c) () 1

theorem sum_owed (l : List Copy) : (∑ d : Dev nD, owed d l) = ∑ d : Dev nD, due d l := by
  induction l with
  | nil => rfl
  | cons j l ih =>
    show (∑ d : Dev nD, (owed d l + tallyAt (recvCell (j.target d) j) () (credit j.buf)))
      = ∑ d : Dev nD, (due d l + tallyAt (recvCell d j) () (credit j.buf))
    rw [Finset.sum_add_distrib, Finset.sum_add_distrib, ih]
    congr 1
    rw [← Equiv.sum_comp (toTarget j) fun d => (tallyAt (recvCell d j) () (credit j.buf) : CellTallies nD τ sig Unit)]
    exact Finset.sum_congr rfl fun d _ => by rw [toTarget_apply]

theorem sum_O₀ : (∑ d : Dev nD, O₀ d) = ∑ d : Dev nD, dueAll d := by
  unfold O₀ dueAll
  rw [Finset.sum_add_distrib, Finset.sum_add_distrib, Finset.sum_add_distrib, Finset.sum_add_distrib, sum_owed]
  have e (f : Dev nD ≃ Dev nD) : (∑ d : Dev nD, (tallyAt (barCell (f d)) () 1 : CellTallies nD τ sig Unit)) = ∑ d : Dev nD, tallyAt (barCell d) () 1 :=
    Equiv.sum_comp f fun d => tallyAt (barCell d) () 1
  exact congrArg₂ _ (congrArg₂ _ rfl (e toRight)) (e toLeft)

theorem due_own (d : Dev nD) (l : List Copy) (g : GSem nD τ sig) (h : due d l g ≠ 0) : g.1 = (d.tc : Thread nD τ) := by
  induction l with
  | nil => exact absurd rfl h
  | cons j l ih =>
    by_cases hg : g = recvCell d j
    · rw [hg]
    · have h' : due d l g + tallyAt (recvCell d j) () (credit j.buf) g ≠ 0 := h
      rw [tallyAt_ne_cell hg, add_zero] at h'
      exact ih h'

theorem dueAll_own (d : Dev nD) (g : GSem nD τ sig) (h : dueAll d g ≠ 0) : g.1 = (d.tc : Thread nD τ) := by
  by_cases hg : g = barCell d
  · rw [hg]
  · have h' : due d order g + tallyAt (barCell d) () 1 g + tallyAt (barCell d) () 1 g ≠ 0 := h
    rw [tallyAt_ne_cell hg, add_zero, add_zero] at h'
    exact due_own d order g h'

theorem due_cred (c : Dev nD) (l : List Copy) :
    (cred (due c l) : sProp 𝕄) ⊢ iprop(bigSepL l fun j => cred (tallyAt (recvCell c j) () (credit j.buf))) := by
  induction l with
  | nil =>
    iintro H
    rw [bigSepL_nil]
    iempintro
  | cons j l ih =>
    show (cred (due c l + tallyAt (recvCell c j) () (credit j.buf)) : sProp 𝕄) ⊢ _
    rw [bigSepL_cons']
    iintro H
    ihave H := (cred_add _ _).1 $$ H
    icases H with ⟨H1, H2⟩
    isplitl [H2]; · iexact H2
    iapply ih; iexact H1

theorem credits (c : Dev nD) :
    (iprop(Pipeline.launchCred O₀ c) : sProp 𝕄)
      ⊢ iprop(cred (tallyAt (barCell c) () 2) ∗ each fun j => cred (tallyAt (recvCell c j) () (credit j.buf))) := by
  rw [Pipeline.launchCred_of_sum O₀ dueAll sum_O₀ dueAll_own c, ← bigSep_each, bigSep_univ_eq_bigSepL order rfl order_nodup]
  unfold dueAll
  rw [add_assoc, tallyAt_add]
  iintro H
  ihave H := (cred_add _ _).1 $$ H
  icases H with ⟨H1, H2⟩
  isplitl [H2]; · iexact H2
  iapply (due_cred c order); iexact H1

/-! ## The start of the program -/

/-- The ghost state at launch: the windows' and the protocol's. -/
def u₀ : UU :=
  (initOf (Pipeline.cells (Pipeline.pin (pcfgs (F := F)) adm) cellOf_inj) (Pipeline.launchToks (Pipeline.pin (pcfgs (F := F)) adm) cellOf_inj),
    launchOf barCells keyCells toks)

/-- The protocol's ghost state, with device 0 until it is dealt. -/
def parked (c : Dev nD) : sProp 𝕄 := if c = 0 then own (ER (launchOf barCells keyCells toks)) else iprop(emp)

theorem parked_all : bigSep Finset.univ (parked (F := F)) = own (ER (launchOf barCells keyCells toks)) := by
  have h (c : Dev nD) (hc : c ∈ Finset.univ.erase (0 : Dev nD)) : parked (F := F) c = (BI.emp : sProp 𝕄) :=
    if_neg (Finset.ne_of_mem_erase hc)
  rw [bigSep_univ_at _ (0 : Dev nD), bigSep_congr h, BI.bigSep_emp_const]
  exact (equiv_iff.mp sep_emp).trans (if_pos rfl)

theorem barrier_sem (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What the first host operations start from. -/
abbrev begin (c : Dev nD) : sProp 𝕄 := iprop(StableHlo.held (c.tc : Thread nD τ) (Pipeline.ucRefs τ sig) (V₀ m c) ∗ aside m c)

/-- What a device has at launch that is its own. -/
abbrev alone (c : Dev nD) : sProp 𝕄 :=
  iprop(StableHlo.held (c.tc : Thread nD τ) (Pipeline.ucRefs τ sig) (V₀ m c) ∗ (owes (c : Thread nD τ) (O₀ c) ∅
    ∗ (cred (tallyAt (barCell c) () 2) ∗ each fun j => cred (tallyAt (recvCell c j) () (credit j.buf))) ∗ ∃ r, prngReg c r))

theorem alone_intro (c : Dev nD) :
    iprop(unscopedBufs c (fun b => m ((c : Thread nD τ).loc b)) ∗ unscopedSems0 c
          ∗ owes (c : Thread nD τ) (O₀ c) ∅ ∗ Pipeline.launchCred O₀ c ∗ prngReg c (ρ c) ∗ parked (F := F) c)
      ⊢ (iprop(alone m c ∗ semVal (barCell c) 0 ∗ parked (F := F) c) : sProp 𝕄) := by
  rw [show unscopedBufs c (fun b => m ((c : Thread nD τ).loc b)) = StableHlo.held (c.tc : Thread nD τ) (Pipeline.ucRefs τ sig) (V₀ m c)
    from Pipeline.unscopedBufs_held c (V₀ m c), barrier_sem]
  iintro ⟨Hh, Hb, HO, Hc, Hp, HG⟩
  ihave Hc := (credits (F := F) c) $$ Hc
  isplitl [Hh HO Hc Hp]
  · isplitl [Hh]; · iexact Hh
    isplitl [HO]; · iexact HO
    isplitl [Hc]; · iexact Hc
    iexists (ρ c); iexact Hp
  isplitl [Hb] <;> iassumption

/-- What the protocol deals a device. -/
abbrev dealtTo (c : Dev nD) : sProp 𝕄 :=
  iprop(atPos ER (barCell c) 0 ∅ 0 ∗ (each (fun j => openTok ER (sendCell c j)) ∗ each (fun j => openTok ER (recvCell c j))) ∗ paying (F := F) c)

theorem begin_intro (κ : GSem nD τ sig → ℕ) (c : Dev nD) :
    iprop(records (ownOf m) κ ∗ dealtTo (F := F) c ∗ alone m c) ⊢ begin m c := by
  unfold begin aside carried
  rw [each_both, each_both, each_both, each_both]
  iintro ⟨#HK, ⟨Hb, Hopen, ⟨Htl, Htr⟩, Hts⟩, Hh, HO, ⟨Hc2, Hc⟩, Hp⟩
  isplitl [Hh]; · iexact Hh
  isplitl [Hp]; · iexact Hp
  isplitr [HO]
  · iexists κ
    isplitr; · iexact HK
    isplitl [Hb Hc2 Htl Htr]
    · isplitl [Hb]; · iexact Hb
      isplitl [Hc2]; · iexact Hc2
      isplitl [Htl] <;> iassumption
    isplitl [Hopen]; · iexact Hopen
    isplitl [Hts] <;> iassumption
  iexists ∅; iexact HO

theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked (F := F) c)) ∗ levAts L lv)
      ⊢ (iprop(|={Set.univ}=> bigSep Finset.univ (begin m)) : sProp 𝕄) := by
  have hone : (iprop(bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked (F := F) c)) : sProp 𝕄)
      ⊢ iprop((bigSep Finset.univ fun c : Dev nD => alone m c) ∗ (bigSep barCells fun g => semVal g 0)
        ∗ own (ER (launchOf barCells keyCells toks))) := by
    rw [over_bars, ← parked_all, ← bigSep_sep', ← bigSep_sep']
    exact bigSep_mono fun c _ => alone_intro m ρ c
  have hdeal : (iprop((bigSep barCells fun g => atPos ER g 0 ∅ 0) ∗ (bigSep keyCells fun g => openTok ER g)
        ∗ bigSep toks fun x => dutyTok ER x.1 x.2.1 x.2.2) : sProp 𝕄)
      ⊢ iprop(bigSep Finset.univ fun c : Dev nD => dealtTo (F := F) c) := by
    rw [over_bars, over_keys, toks_dealt, ← bigSep_sep', ← bigSep_sep']
  have hall (κ : GSem nD τ sig → ℕ) : (iprop(records (ownOf m) κ ∗ (bigSep Finset.univ fun c : Dev nD => dealtTo (F := F) c)
        ∗ bigSep Finset.univ fun c : Dev nD => alone m c) : sProp 𝕄) ⊢ iprop(bigSep Finset.univ (begin m)) := by
    rw [← bigSep_sep']
    exact bigSep_with_persistent fun c _ => begin_intro m κ c
  iintro ⟨H, -⟩
  ihave H := hone $$ H
  icases H with ⟨Ha, Hs, HG⟩
  imod (Rounds.fund_launch ER (Rd (ownOf m)) cells_apart (fun g _ h => h) toks) $$ [Hs HG] with ⟨%κ, -, #Hinv, #Hr, Hat, Hopen, Htok⟩
  · isplitl [Hs] <;> iassumption
  imodintro
  iapply (hall κ)
  isplitr
  · unfold records
    isplitr; · iexact Hinv
    iexact Hr
  isplitr [Ha]
  · iapply hdeal
    isplitl [Hat]; · iexact Hat
    isplitl [Hopen] <;> iassumption
  iexact Ha

end Attn
-- ==== Proof.Run.lean ====
/- The run of the whole program. -/
module

public import proofs.«01_k».proof.Proof.Start

@[expose] public section

set_option maxRecDepth 16384

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ UU ℕ

variable (m : (ℓ : Loc nD τ sig) → Buf (Elt F) ℓ) (ρ : Dev nD → PrngReg) (qs mask : F .f32)

/-! ## What the host operations leave -/

/-- The buffers the reshapes before the kernel do not write. -/
theorem V₁_ne (c : Dev nD) (r : Ref sig .tc) (h1 : r ≠ main_v1) (h2 : r ≠ main_v2) (h3 : r ≠ main_v3) :
    V₁ m c (Proc.devRef .tc r) = m ((c : Thread nD τ).loc r) := by
  show StableHlo.after [_, _, _] (V₀ m c) (Proc.devRef .tc r) = _
  rw [StableHlo.after_cons, StableHlo.after_cons, StableHlo.after_cons, StableHlo.after_nil]
  exact (StableHlo.reshape_result_ne _ _ _ _ _ _ _ h3).trans
    ((StableHlo.reshape_result_ne _ _ _ _ _ _ _ h2).trans (StableHlo.reshape_result_ne _ _ _ _ _ _ _ h1))

theorem xOf_eq (c : Dev nD) : xOf m c = shapeCast S1024x1024 (m ((c : Thread nD τ).loc main_arg0)) shapeCasts_S1x1024x1024_S1024x1024 := by
  show StableHlo.after [_, _, _] (V₀ m c) (Proc.devRef .tc main_v1) = _
  rw [StableHlo.after_cons, StableHlo.after_cons, StableHlo.after_cons, StableHlo.after_nil]
  exact (StableHlo.reshape_result_ne _ _ _ _ _ _ _ (by decide)).trans <| (StableHlo.reshape_result_ne _ _ _ _ _ _ _ (by decide)).trans <| StableHlo.reshape_result ..

theorem wqOf_eq (c : Dev nD) : wqOf m c = m ((c : Thread nD τ).loc main_arg1) :=
  V₁_ne m c main_arg1 (by decide) (by decide) (by decide)
theorem woOf_eq (c : Dev nD) : woOf m c = m ((c : Thread nD τ).loc main_arg4) :=
  V₁_ne m c main_arg4 (by decide) (by decide) (by decide)
theorem keysOf_eq (c : Dev nD) : ownOf m false c = shapeCast S1024x1024 (m ((c : Thread nD τ).loc main_arg2)) shapeCasts_S1x1024x8x128_S1024x1024 := by
  show StableHlo.after [_, _, _] (V₀ m c) (Proc.devRef .tc main_v2) = _
  rw [StableHlo.after_cons, StableHlo.after_cons, StableHlo.after_cons, StableHlo.after_nil]
  exact (StableHlo.reshape_result_ne _ _ _ _ _ _ _ (by decide)).trans <| (StableHlo.reshape_result ..).trans <|
    congrArg (fun t => shapeCast S1024x1024 t shapeCasts_S1x1024x8x128_S1024x1024) (StableHlo.reshape_result_ne _ _ _ _ _ _ _ (by decide))
theorem valuesOf_eq (c : Dev nD) : ownOf m true c = shapeCast S1024x1024 (m ((c : Thread nD τ).loc main_arg3)) shapeCasts_S1x1024x8x128_S1024x1024 := by
  show StableHlo.after [_, _, _] (V₀ m c) (Proc.devRef .tc main_v3) = _
  rw [StableHlo.after_cons, StableHlo.after_cons, StableHlo.after_cons, StableHlo.after_nil]
  exact (StableHlo.reshape_result ..).trans <|
    congrArg (fun t => shapeCast S1024x1024 t shapeCasts_S1x1024x8x128_S1024x1024)
      ((StableHlo.reshape_result_ne _ _ _ _ _ _ _ (by decide)).trans (StableHlo.reshape_result_ne _ _ _ _ _ _ _ (by decide)))

/-- In the end. -/
abbrev V₃ (c : Dev nD) : Valuation τ sig (Elt F) := StableHlo.after hostOps1 (V₂ m qs mask c)

theorem V₃_arg (c : Dev nD) (r : Ref sig .tc) (h1 : r ≠ main_v1) (h2 : r ≠ main_v2) (h3 : r ≠ main_v3) (h4 : r ≠ main_v4) (h5 : r ≠ main_v5) :
    V₃ m qs mask c (Proc.devRef .tc r) = m ((c : Thread nD τ).loc r) := by
  show StableHlo.after [_] (V₂ m qs mask c) (Proc.devRef .tc r) = _
  rw [StableHlo.after_cons, StableHlo.after_nil]
  exact (StableHlo.reshape_result_ne _ _ _ _ _ _ _ h5).trans
    ((V₂_ne m qs mask c _ (StableHlo.devRef_ne_of_ne h4)).trans (V₁_ne m c r h1 h2 h3))

/-- A device's part of the program's result. -/
def answer (c : Dev nD) : S1x1024x1024.Idx → F .f32 := shapeCast S1x1024x1024 (outOf m qs mask c) shapeCasts_S1024x1024_S1x1024x1024

theorem V₃_out (c : Dev nD) : V₃ m qs mask c (Proc.devRef .tc main_v5) = answer m qs mask c := by
  show StableHlo.after [_] (V₂ m qs mask c) (Proc.devRef .tc main_v5) = _
  rw [StableHlo.after_cons, StableHlo.after_nil]
  exact (StableHlo.reshape_result ..).trans <|
    congrArg (fun t => shapeCast S1x1024x1024 t shapeCasts_S1024x1024_S1x1024x1024) (V₂_at m qs mask c)

/-! ## The run -/

/-- Held buffers are what the memory has. -/
theorem held_read (c : Dev nD) (S : Finset (DevRef τ sig)) (W : Valuation τ sig (Elt F)) (s : Phys nD τ sig (Elt F)) :
    iprop(StableHlo.held (c.tc : Thread nD τ) S W ∗ SI s) ⊢ (iprop(⌜∀ b ∈ S, s.mem.mem (c, b) = W b⌝ ∗ SI s) : sProp 𝕄) := by
  unfold StableHlo.held
  induction S using Finset.induction_on with
  | empty =>
    iintro ⟨-, H⟩
    isplitr
    · ipureintro; exact fun b hb => absurd hb (Finset.notMem_empty b)
    iexact H
  | insert b S hb ih =>
    rw [bigSep_insert hb]
    show iprop((_ ∗ _) ∗ _) ⊢ _
    iintro ⟨⟨Hb, HS⟩, HSI⟩
    icombine HSI Hb gives %hx
    ihave H := ih $$ [HS HSI]
    · isplitl [HS] <;> iassumption
    icases H with ⟨%hS, HSI⟩
    isplitr
    · ipureintro
      intro b' hb'
      rcases Finset.mem_insert.mp hb' with rfl | hb'
      · exact Buf.eq_of_forall_mem_univ hx
      · exact hS b' hb'
    iexact HSI

theorem unscoped_bar : ∀ sm : SemLoc sig, sm.isScoped .tc = false → sm = .reg barS := by decide

set_option backward.isDefEq.respectTransparency.types false in
/-- The program ends, on every device with its arguments as they were and its result computed, and every semaphore at zero. -/
theorem run : θ_run (Pipeline.defs (pcfgs (F := F)) (defsOf qs mask)) (onTc (τ := τ) (main (F := F))) ⟨m, fun _ => 0, ρ⟩
    (fun r => (∀ c : Dev nD, r.2.mem ((c : Thread nD τ).loc main_v5) = answer m qs mask c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  Pipeline.θ_run_regions_kit_sems (pcfgs (F := F)) adm (pdats m qs mask) () cellOf_inj EP (defsOf qs mask) 𝒱₀ L lv m ρ main (parts m qs mask)
    (fun c Q => by rw [main_parts m qs mask c])
    (by simp only [parts, Pipeline.Seg.pipes_host, Pipeline.Seg.pipes_region, Pipeline.Seg.pipes_nil]; decide)
    (O₀ := O₀) (hL := L_of_ne) (G := parked (F := F)) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := begin m)
    (Tₙ := fun c => iprop(StableHlo.held (c.tc : Thread nD τ) (Pipeline.ucRefs τ sig) (V₃ m qs mask c) ∗ semVal (barCell c) 0))
    (hch := by
      refine ⟨fun c => .rfl, fun c => region_pre m qs mask c, fun c => region_post m qs mask c, fun c => ?_⟩
      show iprop(StableHlo.held (c.tc : Thread nD τ) (Pipeline.ucRefs τ sig) (V₃ m qs mask c) ∗ asideEnd c) ⊢ _
      iintro ⟨Hh, Hp, Hb, HO⟩
      isplitr [HO]
      · isplitl [Hh] <;> iassumption
      · iexact HO)
    (hinit := launch m ρ)
    (QY := fun c s => (∀ b ∈ Pipeline.ucRefs τ sig, s.mem (c, b) = V₃ m qs mask c b) ∧ s.sem (barCell c) = 0)
    (hfin := fun c s' => by
      iintro ⟨⟨Hh, Hb⟩, HSI⟩
      icombine HSI Hb gives %hb
      ihave H := (held_read c _ _ s') $$ [Hh HSI]
      · isplitl [Hh] <;> iassumption
      icases H with ⟨%hm, HSI⟩
      imodintro
      isplitr
      · ipureintro
        exact ⟨hm, by simpa using hb⟩
      iexact HSI)
    (hQ := fun s h hs => ⟨fun c =>
        ⟨((h c).1 (Proc.devRef .tc main_v5) (by decide)).trans (V₃_out m qs mask c),
          ((h c).1 (Proc.devRef .tc main_arg0) (by decide)).trans (V₃_arg m qs mask c main_arg0 (by decide) (by decide) (by decide) (by decide) (by decide)),
          ((h c).1 (Proc.devRef .tc main_arg1) (by decide)).trans (V₃_arg m qs mask c main_arg1 (by decide) (by decide) (by decide) (by decide) (by decide)),
          ((h c).1 (Proc.devRef .tc main_arg2) (by decide)).trans (V₃_arg m qs mask c main_arg2 (by decide) (by decide) (by decide) (by decide) (by decide)),
          ((h c).1 (Proc.devRef .tc main_arg3) (by decide)).trans (V₃_arg m qs mask c main_arg3 (by decide) (by decide) (by decide) (by decide) (by decide)),
          ((h c).1 (Proc.devRef .tc main_arg4) (by decide)).trans (V₃_arg m qs mask c main_arg4 (by decide) (by decide) (by decide) (by decide) (by decide))⟩,
      sem_eq_zero hs fun c sm hsm => by
        obtain rfl := unscoped_bar sm hsm
        exact (h c).2⟩)

end Attn
-- ==== Proof.Same.lean ====
/- The generated text of the body is the structured program. -/
module

public import proofs.«01_k».proof.Proof.Program
public import proofs.«01_k».proof.Proof.Gen.KernelIdeal
public import proofs.«01_k».proof.Proof.Gen.KernelIdeal.Points

@[expose] public section

set_option maxRecDepth 100000
set_option maxHeartbeats 0

noncomputable section

namespace Attn

open Idealize.ShloMosaic Idealize.ShloMosaic.TcCoe
open Idealize.SL Idealize.SL.Sem
open Cert.Kernel Cert.Kernel.Gen

variable {F : FTy → Type} [FloatOps F]

/-- The kernel's text. -/
theorem kernel_body (t : Fin cfg0.N) :
    bodyAt0 (F := F) t = body (Scalar.ofBits .f32 0x3E0293EE#32) (Scalar.ofBits .f32 0xCE6E6B28#32) := by
  refine congrArg (Prog.op TpuEff.deviceId) (funext fun d => ?_)
  fin_cases d
  all_goals rfl

theorem kernel_defs₀ : Cert.Kernel.defs₀ (F := F)
    = defsOf (Scalar.ofBits .f32 0x3E0293EE#32) (Scalar.ofBits .f32 0xCE6E6B28#32) := by
  refine congrArg Defs.onTc (funext fun l => funext fun ts => ?_)
  match l, ts with
  | 0, (t, s) =>
    have hs : s = cfg0.slots t := funext fun w => by fin_cases w <;> exact Subsingleton.elim (α := Fin 1) _ _
    subst hs
    exact kernel_body t
  | ⟨_ + 1, h⟩, _ => exact absurd h (Nat.not_lt.2 (Nat.le_add_left _ _))

/-- The idealized kernel's text: the two constants are named. -/
theorem ideal_body (t : Fin cfg0.N) :
    Cert.KernelIdeal.Gen.bodyAt0 (F := Ideal) t
      = body (F := Ideal) (Named.named Cert.KernelIdeal.κ "q_scale" 0x3E0293EE#32) (Named.named Cert.KernelIdeal.κ "mask" 0xCE6E6B28#32) := by
  refine congrArg (Prog.op TpuEff.deviceId) (funext fun d => ?_)
  fin_cases d
  all_goals rfl

theorem ideal_defs₀ : Cert.KernelIdeal.defs₀ (F := Ideal)
    = defsOf (F := Ideal) (Named.named Cert.KernelIdeal.κ "q_scale" 0x3E0293EE#32) (Named.named Cert.KernelIdeal.κ "mask" 0xCE6E6B28#32) := by
  refine congrArg Defs.onTc (funext fun l => funext fun ts => ?_)
  match l, ts with
  | 0, (t, s) =>
    have hs : s = cfg0.slots t := funext fun w => by fin_cases w <;> exact Subsingleton.elim (α := Fin 1) _ _
    subst hs
    exact ideal_body t
  | ⟨_ + 1, h⟩, _ => exact absurd h (Nat.not_lt.2 (Nat.le_add_left _ _))

end Attn
-- ==== Proof.Frames.lean ====
/- Every program terminates, leaves its arguments alone and every semaphore at zero. -/
module

public import proofs.«01_k».proof.Defs
public import proofs.«01_k».proof.Proof.Run
public import proofs.«01_k».proof.Proof.Same
public import proofs.«01_k».proof.Proof.Gen.Kernel
public import proofs.«01_k».proof.Proof.Gen.KernelIdeal
public import proofs.«01_k».proof.Proof.Gen.ReferenceIdeal.Run
public import Idealize.ShloMosaic.Lib.Quiescent

@[expose] public section

set_option maxRecDepth 100000

noncomputable section

namespace Attn

open Idealize.ShloMosaic Idealize.ShloMosaic.TcCoe
open Idealize.SL Idealize.SL.Sem

/-- The scale on the queries, at `Ideal`. -/
abbrev qScale : Ideal .f32 := Named.named Cert.KernelIdeal.κ "q_scale" 0x3E0293EE#32
/-- The mask, at `Ideal`. -/
abbrev maskOff : Ideal .f32 := Named.named Cert.KernelIdeal.κ "mask" 0xCE6E6B28#32

theorem frame_kernel : Cert.quiescent_Kernel := fun m g _ => by
  have h := run (F := Bits) m g (Scalar.ofBits .f32 0x3E0293EE#32) (Scalar.ofBits .f32 0xCE6E6B28#32)
  rw [← kernel_defs₀] at h
  exact (θ_run Cert.Kernel.defs _ _).mono (fun r h => ⟨fun c => (h.1 c).2, h.2⟩) h

/-- The idealized kernel's run, with its result. -/
theorem run_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
    (fun r => (∀ c : Dev Cert.KernelIdeal.nD, r.2.mem ((c.tc : Thread Cert.KernelIdeal.nD Cert.KernelIdeal.τ).loc Cert.KernelIdeal.main_v5) = answer (F := Ideal) m qScale maskOff c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) ∧ r.2.sem = fun _ => 0) := by
  have h := run (F := Ideal) m g qScale maskOff
  rw [← ideal_defs₀] at h
  exact h

theorem frame_ideal : Cert.quiescent_KernelIdeal := fun m g _ =>
  (θ_run Cert.KernelIdeal.defs _ _).mono (fun r h => ⟨fun c => (h.1 c).2, h.2⟩) (run_ideal m g)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same of memories the precondition is asked of. -/
theorem frame_ideal_finite [Cert.Pre_finite_queries_and_keys_KernelIdeal.Facts] :
    Cert.quiescent_KernelIdeal_pre_finite_queries_and_keys_KernelIdeal := fun m g _ =>
  (θ_run Cert.KernelIdeal.defs _ _).mono (fun r h => ⟨fun c => (h.1 c).2, h.2⟩) (run_ideal m g)

theorem frame_reference_finite [Cert.Pre_finite_queries_and_keys_ReferenceIdeal.Facts] :
    Cert.quiescent_ReferenceIdeal_pre_finite_queries_and_keys_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The two named constants are what their names say. -/
theorem preserves : Cert.preserves_Kernel_KernelIdeal :=
  ⟨IdealRules.named_const.statement Cert.KernelIdeal.κ "q_scale" .f32 0x3E0293EE#32 (((Real.sqrt 128)⁻¹ * (Real.log 2)⁻¹ : ℝ) : EReal) rfl,
    IdealRules.named_const.statement Cert.KernelIdeal.κ "mask" .f32 0xCE6E6B28#32 ⊥ rfl⟩

end Attn
-- ==== Proof.Finite.lean ====
/- What the precondition says: the entries of the queries' inputs and of the keys are reals. -/
module

public import proofs.«01_k».proof.Defs
public import Idealize.ShloMosaic.Lib.Pointwise

@[expose] public section

set_option maxRecDepth 100000

noncomputable section

namespace Attn

open Idealize.ShloMosaic Idealize.ShloMosaic.TcCoe
open Idealize.SL Idealize.SL.Sem

theorem facts_kernel : Cert.Pre_finite_queries_and_keys_KernelIdeal.Facts where
  bcast_S_S1x1024x1024 := by decide
  bcast_S_S1024x1024 := by decide
  bcast_S_S1x1024x8x128 := by decide

theorem facts_reference : Cert.Pre_finite_queries_and_keys_ReferenceIdeal.Facts where
  bcast_S_S1x4096x1024 := by decide
  bcast_S_S1024x1024 := by decide
  bcast_S_S1x4096x8x128 := by decide

theorem bits_top : Ideal.ofBits FTy.bf16 0x7F80#16 = ⊤ := by
  simp [Ideal.ofBits, Ideal.ieee, -EReal.coe_mul]

/-- An extended real of finite absolute value is a real. -/
theorem real_of_abs (x : EReal) (h : max x (-x) < ⊤) : ∃ r : ℝ, x = r := by
  have h1 : x ≠ ⊤ := fun e => by rw [e] at h; simp at h
  have h2 : x ≠ ⊥ := fun e => by rw [e] at h; simp at h
  exact ⟨x.toReal, (EReal.coe_toReal h1 h2).symm⟩

theorem real_of_bit {s : Shape} (x : FVec Ideal s .bf16) (hb : (⟨0, ![]⟩ : Shape).BroadcastsInDim s (![] : Fin 0 → Fin s.rank))
    (h : cmpf .olt (Host.absf x) (broadcastInDim s ![] hb (constant ⟨0, ![]⟩ .bf16 0x7F80#16)) = fun _ => 1#1) (i : s.Idx) :
    ∃ r : ℝ, x i = (r : EReal) := by
  have hi := congrFun h i
  refine real_of_abs (x i) ?_
  rw [← bits_top]
  by_contra hc
  revert hi
  show ¬ (BitVec.ofBool (decide (max (x i) (-(x i)) < Ideal.ofBits FTy.bf16 0x7F80#16)) = 1#1)
  rw [decide_eq_false hc]
  decide

/-- Every entry of the inputs, of the first weights and of the keys is a real. -/
theorem finite [Cert.Pre_finite_queries_and_keys_KernelIdeal.Facts]
    (m : (ℓ : Loc Cert.KernelIdeal.nD Cert.KernelIdeal.τ Cert.KernelIdeal.sig) → Buf (Elt Ideal) ℓ)
    (h : Cert.Pre_KernelIdeal_finite_queries_and_keys_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) :=
  ⟨real_of_bit _ _ (h c).1, real_of_bit _ _ (h c).2.1, real_of_bit _ _ (h c).2.2⟩

end Attn
-- ==== Proof.Words.lean ====
/- Block numbers as words. -/
module

public import Idealize.ShloMosaic.PureOps

@[expose] public section

namespace Attn

open Idealize.ShloMosaic

/-- Words that name blocks compare as the blocks do. -/
theorem word_le : ∀ a b : Fin 64, IntOp.cmpi CmpIPredicate.sle (BitVec.ofNat 32 a.val) (BitVec.ofNat 32 b.val) = BitVec.ofBool (decide (a.val ≤ b.val)) := by
  decide +kernel

end Attn
-- ==== Proof.Read.lean ====
/- What each step of the kernel computes at the extended reals, entry by entry. -/
module

public import proofs.«01_k».proof.Proof.Heads
public import proofs.«01_k».proof.Proof.Words
public import Idealize.ShloMosaic.Lib.Pointwise

@[expose] public section

set_option maxRecDepth 100000

noncomputable section

namespace Attn

open Idealize.ShloMosaic Idealize.ShloMosaic.TcCoe
open Idealize.SL Idealize.SL.Sem
open Cert.Kernel Cert.Kernel.Gen

theorem queries_apply (qs : Ideal .f32) (x wq : Vec Ideal S1024x1024 .bf16) (r n : Fin 1024) :
    queries (F := Ideal) qs x wq (ix2 r n) = (∑ k : Fin 1024, x (ix2 r k) * wq (ix2 k n)) * qs := by
  pointwise [queries]

theorem weights_apply (q : Vec Ideal S1024x128 .bf16) (key : Vec Ideal S1x1x1024x128 .bf16) (r j : Fin 1024) :
    weights (F := Ideal) q key (ix2 r j) = Ideal.exp2 (∑ d : Fin 128, q (ix2 r d) * key (ix4 0 0 j d)) := by
  pointwise [weights]
  rfl

theorem addSums_apply (l : Vec Ideal S1x1024x1 .f32) (w : FVec Ideal S1024x1024 .bf16) (r : Fin 1024) :
    addSums (F := Ideal) l w (ix3 0 r 0) = l (ix3 0 r 0) + ∑ j : Fin 1024, w (ix2 r j) := by
  pointwise [addSums]

theorem addMix_apply (acc : Vec Ideal S1024x128 .f32) (w : FVec Ideal S1024x1024 .bf16) (val : Vec Ideal S1x1x1024x128 .bf16)
    (r : Fin 1024) (d : Fin 128) :
    addMix (F := Ideal) acc w val (ix2 r d) = acc (ix2 r d) + ∑ j : Fin 1024, w (ix2 r j) * val (ix4 0 0 j d) := by
  pointwise [addMix]

theorem weightsLo_apply (q : Vec Ideal S512x128 .bf16) (key : Vec Ideal S1x1x512x128 .bf16) (bias : Vec Ideal S512x512 .bf16) (r j : Fin 512) :
    weightsLo (F := Ideal) q key bias (ix2 r j) = Ideal.exp2 ((∑ d : Fin 128, q (ix2 r d) * key (ix4 0 0 j d)) + bias (ix2 r j)) := by
  pointwise [weightsLo]
  rfl

theorem weightsHi_apply (q : Vec Ideal S512x128 .bf16) (key : Vec Ideal S1x1x1024x128 .bf16) (bias : Vec Ideal S512x1024 .bf16) (r : Fin 512) (j : Fin 1024) :
    weightsHi (F := Ideal) q key bias (ix2 r j) = Ideal.exp2 ((∑ d : Fin 128, q (ix2 r d) * key (ix4 0 0 j d)) + bias (ix2 r j)) := by
  pointwise [weightsHi]
  rfl

theorem sumsLo_apply (w : FVec Ideal S512x512 .bf16) (r : Fin 512) : sumsLo (F := Ideal) w (ix3 0 r 0) = ∑ j : Fin 512, w (ix2 r j) := by
  pointwise [sumsLo]
theorem sumsHi_apply (w : FVec Ideal S512x1024 .bf16) (r : Fin 512) : sumsHi (F := Ideal) w (ix3 0 r 0) = ∑ j : Fin 1024, w (ix2 r j) := by
  pointwise [sumsHi]
theorem mixLo_apply (w : FVec Ideal S512x512 .bf16) (val : Vec Ideal S1x1x512x128 .bf16) (r : Fin 512) (d : Fin 128) :
    mixLo (F := Ideal) w val (ix2 r d) = ∑ j : Fin 512, w (ix2 r j) * val (ix4 0 0 j d) := by
  pointwise [mixLo]
theorem mixHi_apply (w : FVec Ideal S512x1024 .bf16) (val : Vec Ideal S1x1x1024x128 .bf16) (r : Fin 512) (d : Fin 128) :
    mixHi (F := Ideal) w val (ix2 r d) = ∑ j : Fin 1024, w (ix2 r j) * val (ix4 0 0 j d) := by
  pointwise [mixHi]

theorem normalised_apply (acc : Vec Ideal S1024x128 .f32) (l : Vec Ideal S1x1024x1 .f32) (r : Fin 1024) (d : Fin 128) :
    normalised (F := Ideal) acc l (ix2 r d) = acc (ix2 r d) * Ideal.div 1 (l (ix3 0 r 0)) := by
  pointwise [normalised]

theorem projected_apply (ctx wo : Vec Ideal S1024x1024 .bf16) (r n : Fin 1024) :
    projected (F := Ideal) ctx wo (ix2 r n) = ∑ k : Fin 1024, ctx (ix2 r k) * wo (ix2 k n) := by
  pointwise [projected]

/-- A position's block of 64, of one word. -/
def blockWord (v : BitVec 32) : BitVec 32 :=
  Scalar.select
    (IntOp.andi
      (IntOp.cmpi CmpIPredicate.ne
        (IntOp.subi (BitVec.setWidth 32 (IntOp.cmpi CmpIPredicate.sgt v 0#32)) (BitVec.setWidth 32 (IntOp.cmpi CmpIPredicate.slt v 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector v 64#32) 0#32))
    (IntOp.subi (IntOp.divsi ArithUnit.vector v 64#32) 1#32)
    (IntOp.divsi ArithUnit.vector v 64#32)

theorem blockWord_eq : ∀ n : Fin 1024, blockWord (BitVec.ofNat 32 n.val) = BitVec.ofNat 32 (n.val / 64) := by decide +kernel

theorem biases_apply (mask : Ideal .f32) (r j : Fin 1024) :
    biases (F := Ideal) mask (ix2 r j) = if j.val / 64 ≤ r.val / 64 then 0 else mask := by
  pointwise [biases, blockOf]
  show Scalar.select (IntOp.cmpi CmpIPredicate.sle (blockWord (BitVec.ofNat 32 j.val)) (blockWord (BitVec.ofNat 32 r.val))) 0 mask = _
  rw [blockWord_eq, blockWord_eq, word_le ⟨j.val / 64, by omega⟩ ⟨r.val / 64, by omega⟩]
  by_cases h : j.val / 64 ≤ r.val / 64
  · rw [if_pos h, decide_eq_true h]; rfl
  · rw [if_neg h, decide_eq_false h]; rfl

end Attn
-- ==== Proof.Average.lean ====
/- A weighted average over the extended reals, in two spellings: the weights' exponentials as they are and the sum divided at
   the end, or each exponential taken below the greatest score and each weight divided. -/
module

public import Idealize.ShloMosaic.PureOps.Ideal

@[expose] public section

noncomputable section

namespace Attn

open Idealize.ShloMosaic

/-- A sum of extended reals times a real that is not negative. -/
theorem sum_mul_coe {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, ← ih]
    exact EReal.right_distrib_of_nonneg_of_ne_top (EReal.coe_nonneg.mpr ha) (EReal.coe_ne_top a) _ _

/-- A sum of reals, as extended reals. -/
theorem coe_sum' {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

variable {ι : Type} [Fintype ι] (s : ι → ℝ) (vis : ι → Prop) [DecidablePred vis]

/-- A key's weight: its score's exponential where it is seen. -/
def weight (i : ι) : ℝ := if vis i then Real.exp (s i) else 0

theorem weight_nonneg (i : ι) : 0 ≤ weight s vis i := by
  unfold weight
  split
  · exact (Real.exp_pos _).le
  · exact le_rfl

theorem weights_pos (h : ∃ i, vis i) : 0 < ∑ i, weight s vis i := by
  obtain ⟨i, hi⟩ := h
  refine Finset.sum_pos' (fun i _ => weight_nonneg s vis i) ⟨i, Finset.mem_univ i, ?_⟩
  rw [weight, if_pos hi]
  exact Real.exp_pos _

/-- A key's score, nothing where it is not seen. -/
def masked (i : ι) : EReal := if vis i then (s i : EReal) else ⊥

/-- The greatest score is a real. -/
theorem greatest_real (h : ∃ i, vis i) : ∃ M : ℝ, (Finset.univ.fold max ⊥ (masked s vis) : EReal) = M := by
  have lt_top : (Finset.univ.fold max ⊥ (masked s vis) : EReal) < ⊤ := by
    rw [Finset.fold_max_lt]
    refine ⟨bot_lt_top, fun i _ => ?_⟩
    unfold masked
    split
    · exact EReal.coe_lt_top _
    · exact bot_lt_top
  have bot_lt : (⊥ : EReal) < Finset.univ.fold max ⊥ (masked s vis) := by
    obtain ⟨i, hi⟩ := h
    rw [Finset.lt_fold_max]
    refine .inr ⟨i, Finset.mem_univ i, ?_⟩
    rw [masked, if_pos hi]
    exact EReal.bot_lt_coe _
  exact ⟨_, (EReal.coe_toReal lt_top.ne bot_lt.ne').symm⟩

/-- A key's exponential below a real is its weight, scaled. -/
theorem exp_masked (M : ℝ) (i : ι) : Ideal.exp (masked s vis i - (M : EReal)) = ((weight s vis i * Real.exp (-M) : ℝ) : EReal) := by
  unfold masked weight
  split
  · rw [← EReal.coe_sub, Ideal.exp_coe, sub_eq_add_neg, Real.exp_add]
  · rw [EReal.bot_sub, Ideal.exp_bot, zero_mul, EReal.coe_zero]

/-- The average: the weighted sum of the values over the sum of the weights. -/
def average (v : ι → EReal) : EReal := (∑ i, (weight s vis i : EReal) * v i) * ((1 / ∑ i, weight s vis i : ℝ) : EReal)

/-- The same with each weight divided. -/
theorem average_each (v : ι → EReal) (h : ∃ i, vis i) :
    ∑ i, v i * ((weight s vis i / ∑ i, weight s vis i : ℝ) : EReal) = average s vis v := by
  rw [average, sum_mul_coe _ _ _ (one_div_nonneg.mpr (weights_pos s vis h).le)]
  refine Finset.sum_congr rfl fun i _ => ?_
  rw [div_eq_mul_one_div, EReal.coe_mul, ← mul_assoc, mul_comm (v i)]

/-- Softmax below the greatest score, then the sum of the values so weighted, is the average. -/
theorem softmax_average (v : ι → EReal) (h : ∃ i, vis i) (t : ι → EReal) (ht : ∀ i, t i = masked s vis i) :
    ∑ i, v i * Ideal.div (Ideal.exp (t i - Finset.univ.fold max ⊥ t)) (∑ j, Ideal.exp (t j - Finset.univ.fold max ⊥ t))
      = average s vis v := by
  obtain rfl : t = masked s vis := funext ht
  obtain ⟨M, hM⟩ := greatest_real s vis h
  rw [hM, ← average_each s vis v h]
  have hsum : ∑ j, Ideal.exp (masked s vis j - (M : EReal)) = (((∑ j, weight s vis j) * Real.exp (-M) : ℝ) : EReal) := by
    rw [Finset.sum_mul, coe_sum']
    exact Finset.sum_congr rfl fun j _ => exp_masked s vis M j
  have hpos := weights_pos s vis h
  have hne : (∑ j, weight s vis j) * Real.exp (-M) ≠ 0 := (mul_pos hpos (Real.exp_pos _)).ne'
  refine Finset.sum_congr rfl fun i _ => ?_
  rw [hsum, exp_masked, Ideal.div_coe hne, ← EReal.coe_mul]
  congr 2
  field_simp

/-- The average over keys numbered another way. -/
theorem average_equiv {κ : Type} [Fintype κ] (e : κ ≃ ι) (vis' : κ → Prop) [DecidablePred vis'] (h : ∀ p, vis' p ↔ vis (e p)) (v : ι → EReal) :
    average (fun p => s (e p)) vis' (fun p => v (e p)) = average s vis v := by
  have hw : ∀ p, weight (fun p => s (e p)) vis' p = weight s vis (e p) := fun p => by
    unfold weight
    exact if_congr (h p) rfl rfl
  unfold average
  simp only [hw]
  rw [Equiv.sum_comp e fun i => (weight s vis i : EReal) * v i, Equiv.sum_comp e fun i => weight s vis i]

/-- A power of two whose exponent is scaled by the logarithm is an exponential. -/
theorem exp2_scaled (x a : ℝ) : Ideal.exp2 ((x * (a * (Real.log 2)⁻¹) : ℝ) : EReal) = (Real.exp (x * a) : EReal) := by
  rw [Ideal.exp2_coe]
  congr 1
  show (2 : ℝ) ^ (x * (a * (Real.log 2)⁻¹)) = _
  have h2 : Real.log 2 ≠ 0 := (Real.log_pos (by norm_num)).ne'
  rw [Real.rpow_def_of_pos (by norm_num : (0 : ℝ) < 2)]
  congr 1
  field_simp

end Attn
-- ==== Proof.KernelValue.lean ====
/- What the kernel computes at the extended reals, where all scores are real. -/
module

public import proofs.«01_k».proof.Proof.Read
public import proofs.«01_k».proof.Proof.Average

@[expose] public section

set_option maxRecDepth 100000

noncomputable section

namespace Attn

open Idealize.ShloMosaic Idealize.ShloMosaic.TcCoe
open Idealize.SL Idealize.SL.Sem
open Cert.Kernel Cert.Kernel.Gen

theorem at2_eq (r n : Fin 1024) : at2 r n = ix2 r n := funext fun a => match a with
  | 0 => rfl
  | 1 => rfl

theorem headOf_apply (K : Table Ideal) (h : Fin 8) (j : Fin 1024) (d : Fin 128) :
    headOf K h (ix4 0 0 j d) = K (ix2 j (headCol h d)) := congrArg K (at2_eq j (headCol h d))

theorem headLoOf_apply (K : Table Ideal) (h : Fin 8) (j : Fin 512) (d : Fin 128) :
    headLoOf K h (ix4 0 0 j d) = K (ix2 ⟨j.val, by omega⟩ (headCol h d)) := congrArg K (at2_eq _ (headCol h d))

theorem cols_emb (h : Fin 8) (r : Fin 1024) (d : Fin 128) : (cols h).emb (ix2 r d) = ix2 r (headCol h d) := funext fun a => match a with
  | 0 => Fin.ext (by show 0 + 1 * r.val = r.val; omega)
  | 1 => Fin.ext (by show 128 * h.val + 1 * d.val = 128 * h.val + d.val; omega)

theorem colsLo_emb (h : Fin 8) (r : Fin 512) (d : Fin 128) :
    (colsLo h).emb (ix2 r d) = ix2 (⟨r.val, by omega⟩ : Fin 1024) (headCol h d) := funext fun a => match a with
  | 0 => Fin.ext (by show 0 + 1 * r.val = r.val; omega)
  | 1 => Fin.ext (by show 128 * h.val + 1 * d.val = 128 * h.val + d.val; omega)

theorem colsHi_emb (h : Fin 8) (r : Fin 512) (d : Fin 128) :
    (colsHi h).emb (ix2 r d) = ix2 (⟨512 + r.val, by omega⟩ : Fin 1024) (headCol h d) := funext fun a => match a with
  | 0 => Fin.ext (by show 512 + 1 * r.val = 512 + r.val; omega)
  | 1 => Fin.ext (by show 128 * h.val + 1 * d.val = 128 * h.val + d.val; omega)

/-- A sum over a chunk's keys whose lower half is nothing. -/
theorem sum_upper (f : Fin 1024 → EReal) (hf : ∀ j : Fin 1024, 512 ≤ j.val → f j = 0) :
    ∑ j : Fin 512, f ⟨j.val, by omega⟩ = ∑ j, f j := by
  have h := Fin.sum_univ_add (a := 512) (b := 512) f
  refine Eq.trans ?_ h.symm
  have hz : ∑ j : Fin 512, f (Fin.natAdd 512 j) = 0 := Finset.sum_eq_zero fun j _ => hf _ (by show 512 ≤ 512 + j.val; omega)
  rw [hz, add_zero]
  rfl

/-! ## The sums -/

/-- Whether device `c`'s query in row `r` sees the key in row `p.2` of device `p.1`'s chunk. -/
def sees (c : Dev nD) (r : Fin 1024) (p : Fin 4 × Fin 1024) : Prop :=
  (1024 * p.1.val + p.2.val) / 64 ≤ (1024 * c.val + r.val) / 64

instance (c : Dev nD) (r : Fin 1024) : DecidablePred (sees c r) := fun _ => Nat.decLe _ _

variable (c : Dev nD) (own : Bool → Dev nD → Table Ideal) (q : Table Ideal) (h : Fin 8)
  (σ : Fin 1024 → Fin 4 × Fin 1024 → ℝ)

/-- The powers of two of the products of the queries and the keys are the exponentials of these scores. -/
def Scored : Prop := ∀ (r : Fin 1024) (e : Fin 4) (j : Fin 1024),
  Ideal.exp2 (∑ d : Fin 128, q (ix2 r (headCol h d)) * own false e (ix2 j (headCol h d))) = (Real.exp (σ r (e, j)) : EReal)

/-- A weight. -/
abbrev wt (r : Fin 1024) (p : Fin 4 × Fin 1024) : ℝ := weight (σ r) (sees c r) p

/-- A chunk's part of the sum of the weights. -/
def lPart (r : Fin 1024) (e : Fin 4) : EReal := ∑ j : Fin 1024, (wt c σ r (e, j) : EReal)
/-- A chunk's part of the weighted values. -/
def accPart (r : Fin 1024) (d : Fin 128) (e : Fin 4) : EReal :=
  ∑ j : Fin 1024, (wt c σ r (e, j) : EReal) * own true e (ix2 j (headCol h d))

variable {c own q h σ}

/-- The weights of a chunk that is wholly seen. -/
theorem weights_seen (hσ : Scored own q h σ) {e : Fin 4} (he : e.val < c.val) (r j : Fin 1024) :
    weights (F := Ideal) (colsOf q h) (headOf (own false e) h) (ix2 r j) = (wt c σ r (e, j) : EReal) := by
  rw [weights_apply, wt, weight, if_pos (by unfold sees; show (1024 * e.val + j.val) / 64 ≤ _; omega), ← hσ r e j]
  refine congrArg Ideal.exp2 (Finset.sum_congr rfl fun d _ => ?_)
  rw [headOf_apply, colsOf, cols_emb]

theorem masked_exp2 (hσ : Scored own q h σ) (r j : Fin 1024) :
    Ideal.exp2 ((∑ d : Fin 128, q (ix2 r (headCol h d)) * own false c (ix2 j (headCol h d))) + if j.val / 64 ≤ r.val / 64 then 0 else ⊥)
      = (wt c σ r (c, j) : EReal) := by
  have hs : sees c r (c, j) ↔ j.val / 64 ≤ r.val / 64 := by unfold sees; show (1024 * c.val + j.val) / 64 ≤ (1024 * c.val + r.val) / 64 ↔ _; omega
  unfold wt weight
  by_cases hv : j.val / 64 ≤ r.val / 64
  · rw [if_pos hv, if_pos (hs.mpr hv), add_zero, hσ r c j]
  · rw [if_neg hv, if_neg (fun h => hv (hs.mp h)), EReal.add_bot, Ideal.exp2_bot, EReal.coe_zero]

/-- The diagonal weights. -/
theorem wLo_eq (hσ : Scored own q h σ) (r j : Fin 512) :
    wLo (F := Ideal) ⊥ q (own false c) h (ix2 r j) = (wt c σ ⟨r.val, by omega⟩ (c, ⟨j.val, by omega⟩) : EReal) := by
  rw [wLo, weightsLo_apply, ← masked_exp2 hσ]
  refine congrArg Ideal.exp2 (congrArg₂ (· + ·) (Finset.sum_congr rfl fun d _ => ?_) ?_)
  · rw [headLoOf_apply, colsLoOf, colsLo_emb]
  · have e : (Rect.unit (s := S1024x1024) ![0, 0] S512x512.size inb_S1024x1024_S512x512_0_0).emb (ix2 r j)
        = ix2 (⟨r.val, by omega⟩ : Fin 1024) (⟨j.val, by omega⟩ : Fin 1024) := funext fun a => match a with
      | 0 => Fin.ext (by show 0 + 1 * r.val = r.val; omega)
      | 1 => Fin.ext (by show 0 + 1 * j.val = j.val; omega)
    rw [e, biases_apply]
theorem wHi_eq (hσ : Scored own q h σ) (r : Fin 512) (j : Fin 1024) :
    wHi (F := Ideal) ⊥ q (own false c) h (ix2 r j) = (wt c σ ⟨512 + r.val, by omega⟩ (c, j) : EReal) := by
  rw [wHi, weightsHi_apply, ← masked_exp2 hσ]
  refine congrArg Ideal.exp2 (congrArg₂ (· + ·) (Finset.sum_congr rfl fun d _ => ?_) ?_)
  · rw [headOf_apply, colsHiOf, colsHi_emb]
  · have e : (Rect.unit (s := S1024x1024) ![512, 0] S512x1024.size inb_S1024x1024_S512x1024_512_0).emb (ix2 r j)
        = ix2 (⟨512 + r.val, by omega⟩ : Fin 1024) j := funext fun a => match a with
      | 0 => Fin.ext (by show 512 + 1 * r.val = 512 + r.val; omega)
      | 1 => Fin.ext (by show 0 + 1 * j.val = j.val; omega)
    rw [e, biases_apply]

theorem wt_late (r : Fin 1024) (hr : r.val < 512) (j : Fin 1024) (hj : 512 ≤ j.val) : wt c σ r (c, j) = 0 := by
  unfold wt weight
  rw [if_neg (by unfold sees; show ¬(1024 * c.val + j.val) / 64 ≤ (1024 * c.val + r.val) / 64; omega)]

theorem own_l (hσ : Scored own q h σ) (r : Fin 1024) :
    (ownSums (F := Ideal) ⊥ q (own false c) (own true c) h).1 (ix3 0 r 0) = lPart c σ r c := by
  show overSums _ _ _ = _
  unfold overSums lPart
  split
  · rename_i hr
    refine (sumsLo_apply _ (⟨r.val, hr⟩ : Fin 512)).trans ?_
    rw [← sum_upper _ fun j hj => by rw [wt_late r hr j hj, EReal.coe_zero]]
    exact Finset.sum_congr rfl fun j _ => wLo_eq hσ _ j
  · rename_i hr
    have hr' : 512 ≤ r.val := Nat.le_of_not_lt hr
    refine (sumsHi_apply _ (⟨r.val - 512, by omega⟩ : Fin 512)).trans ?_
    refine Finset.sum_congr rfl fun j _ => (wHi_eq hσ _ j).trans ?_
    rw [show (⟨512 + (r.val - 512), by omega⟩ : Fin 1024) = r from Fin.ext (by show 512 + (r.val - 512) = r.val; omega)]

theorem own_acc (hσ : Scored own q h σ) (r : Fin 1024) (d : Fin 128) :
    (ownSums (F := Ideal) ⊥ q (own false c) (own true c) h).2 (ix2 r d) = accPart c own h σ r d c := by
  show overMix _ _ _ = _
  unfold overMix accPart
  split
  · rename_i hr
    refine (mixLo_apply _ _ (⟨r.val, hr⟩ : Fin 512) d).trans ?_
    rw [← sum_upper _ fun j hj => by rw [wt_late r hr j hj, EReal.coe_zero, zero_mul]]
    exact Finset.sum_congr rfl fun j _ => by rw [wLo_eq hσ, headLoOf_apply]
  · rename_i hr
    have hr' : 512 ≤ r.val := Nat.le_of_not_lt hr
    refine (mixHi_apply _ _ (⟨r.val - 512, by omega⟩ : Fin 512) d).trans ?_
    refine Finset.sum_congr rfl fun j _ => ?_
    rw [wHi_eq hσ, headOf_apply]
    rw [show (⟨512 + (r.val - 512), by omega⟩ : Fin 1024) = r from Fin.ext (by show 512 + (r.val - 512) = r.val; omega)]

theorem seen_iff (c : Dev nD) (s : Fin 4) (hs : s ≠ 0) : (seen c s → (origin s c).val < c.val) ∧ (¬seen c s → c.val < (origin s c).val) := by
  revert c s; decide

theorem wt_unseen {e : Fin 4} (he : c.val < e.val) (r j : Fin 1024) : wt c σ r (e, j) = 0 := by
  unfold wt weight
  rw [if_neg (by unfold sees; show ¬(1024 * e.val + j.val) / 64 ≤ (1024 * c.val + r.val) / 64; omega)]

/-- Another slot's chunk adds its part, which is nothing where it is not seen. -/
theorem chunk_l (hσ : Scored own q h σ) (s : Fin 4) (hs : s ≠ 0) (P : Sums Ideal) (r : Fin 1024) :
    (seenChunk c own s q h P).1 (ix3 0 r 0) = P.1 (ix3 0 r 0) + lPart c σ r (origin s c) := by
  unfold seenChunk
  split
  · rename_i hv
    refine (addSums_apply _ _ r).trans (congrArg _ (Finset.sum_congr rfl fun j _ => ?_))
    exact weights_seen hσ ((seen_iff c s hs).1 hv) r j
  · rename_i hv
    rw [lPart, Finset.sum_eq_zero fun j _ => by rw [wt_unseen ((seen_iff c s hs).2 hv), EReal.coe_zero], add_zero]

theorem chunk_acc (hσ : Scored own q h σ) (s : Fin 4) (hs : s ≠ 0) (P : Sums Ideal) (r : Fin 1024) (d : Fin 128) :
    (seenChunk c own s q h P).2 (ix2 r d) = P.2 (ix2 r d) + accPart c own h σ r d (origin s c) := by
  unfold seenChunk
  split
  · rename_i hv
    refine (addMix_apply _ _ _ r d).trans (congrArg _ (Finset.sum_congr rfl fun j _ => ?_))
    rw [weights_seen hσ ((seen_iff c s hs).1 hv) r j, headOf_apply]
  · rename_i hv
    rw [accPart, Finset.sum_eq_zero fun j _ => by rw [wt_unseen ((seen_iff c s hs).2 hv), EReal.coe_zero, zero_mul], add_zero]

/-- The slots hold every device's chunk. -/
theorem slots_sum (c : Dev nD) (f : Fin 4 → EReal) : f c + f (origin 1 c) + f (origin 3 c) + f (origin 2 c) = ∑ e, f e := by
  rw [Fin.sum_univ_four]
  fin_cases c
  · show f 0 + f 3 + f 1 + f 2 = _; ac_rfl
  · show f 1 + f 0 + f 2 + f 3 = _; ac_rfl
  · show f 2 + f 1 + f 3 + f 0 = _; ac_rfl
  · show f 3 + f 2 + f 0 + f 1 = _; ac_rfl

theorem total_l (hσ : Scored own q h σ) (r : Fin 1024) :
    (total (F := Ideal) c own ⊥ q h).1 (ix3 0 r 0) = ((∑ p, wt c σ r p : ℝ) : EReal) := by
  unfold total
  rw [chunk_l hσ 2 (by decide), chunk_l hσ 3 (by decide), chunk_l hσ 1 (by decide), own_l hσ, slots_sum c, coe_sum', Fintype.sum_prod_type]
  rfl

theorem total_acc (hσ : Scored own q h σ) (r : Fin 1024) (d : Fin 128) :
    (total (F := Ideal) c own ⊥ q h).2 (ix2 r d) = ∑ p : Fin 4 × Fin 1024, (wt c σ r p : EReal) * own true p.1 (ix2 p.2 (headCol h d)) := by
  unfold total
  rw [chunk_acc hσ 2 (by decide), chunk_acc hσ 3 (by decide), chunk_acc hσ 1 (by decide), own_acc hσ, slots_sum c, Fintype.sum_prod_type]
  rfl

theorem sees_some (c : Dev nD) (r : Fin 1024) : ∃ p, sees c r p := ⟨(c, r), le_refl _⟩

/-- The context is the average of the values. -/
theorem context_average (hσ : Scored own q h σ) (r : Fin 1024) (d : Fin 128) :
    context (F := Ideal) c own ⊥ q (ix2 r (headCol h d)) = average (σ r) (sees c r) fun p => own true p.1 (ix2 p.2 (headCol h d)) := by
  rw [← cols_emb, context_head, normalised_apply, total_acc hσ, total_l hσ,
    Ideal.div_coe (weights_pos _ _ (sees_some c r)).ne', one_mul]
  rfl

end Attn
-- ==== Proof.ReferenceValue.lean ====
/- What the reference computes at the extended reals, stage by stage and entry by entry. -/
module

public import proofs.«01_k».proof.Proof.Gen.ReferenceIdeal.Run
public import proofs.«01_k».proof.Proof.Average
public import proofs.«01_k».proof.Proof.Words
public import Idealize.ShloMosaic.Lib.Pointwise
public import Idealize.ShloMosaic.Lib.Routing.OpsOrder

@[expose] public section

set_option maxRecDepth 100000

noncomputable section

namespace Attn.Ref

open Idealize.ShloMosaic Idealize.ShloMosaic.TcCoe
open Idealize.SL Idealize.SL.Sem
open Cert.ReferenceIdeal Cert.ReferenceIdeal.Gen Cert.ReferenceIdeal.Value

section
variable {F : FTy → Type} [FloatOps F]

/-- Every position's block of 64. -/
def blocks : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- Which keys a query sees. -/
def visible : IVec S4096x4096 1 :=
  cmpi .sle (broadcastInDim S4096x4096 ![0, 1] bcast_S1x4096_S4096x4096_0_1 (broadcastInDim S1x4096 ![1] bcast_S4096_S1x4096_1 blocks)) (broadcastInDim S4096x4096 ![0, 1] bcast_S4096x1_S4096x4096_0_1 (broadcastInDim S4096x1 ![0] bcast_S4096_S4096x1_0 blocks))

/-- Whether a query sees any key. -/
def keep : IVec S1x1x4096x1 1 :=
  broadcastInDim S1x1x4096x1 ![2] bcast_S4096_S1x1x4096x1_2 (Host.reduce IntOp.ori visible (constantI S_ 1 0#1) reducesTo_S4096x4096_S4096_d1 h_S_)

/-- The queries. -/
def queries (x : FVec F S1x4096x1024 .bf16) (wq : FVec F S1024x1024 .bf16) : FVec F S1x4096x8x128 .f32 :=
  shapeCast _ (Host.dotGeneral dot_S1x4096x1024_S1024x1024_S1x4096x1024_2_0_01_1_n_n none (extf .f32 x bitsLt_bf16_f32) (extf .f32 wq bitsLt_bf16_f32)) shapeCasts_S1x4096x1024_S1x4096x8x128

/-- The scores, masked. -/
def scores (q : FVec F S1x4096x8x128 .f32) (k : FVec F S1x4096x8x128 .bf16) : FVec F S1x8x4096x4096 .f32 :=
  select (broadcastInDim S1x8x4096x4096 ![0, 1, 2, 3] bcast_S1x1x4096x4096_S1x8x4096x4096_0_1_2_3 (broadcastInDim S1x1x4096x4096 ![2, 3] bcast_S4096x4096_S1x1x4096x4096_2_3 visible)) (Host.divf (Host.dotGeneral dot_S1x4096x8x128_S1x4096x8x128_S1x8x4096x4096_3_3_1_1_02_02 none q (extf .f32 k bitsLt_bf16_f32)) (broadcastInDim S1x8x4096x4096 ![] bcast_S_S1x8x4096x4096 (id (Host.sqrt (constant S_ .f32 0x43000000#32))))) (broadcastInDim S1x8x4096x4096 ![] bcast_S_S1x8x4096x4096 (id (constant S_ .f32 0xFF800000#32)))

/-- The exponentials below the greatest score. -/
def exps (s : FVec F S1x8x4096x4096 .f32) : FVec F S1x8x4096x4096 .f32 :=
  Host.exp (subf s (broadcastInDim S1x8x4096x4096 ![0, 1, 2, 3] bcast_S1x8x4096x1_S1x8x4096x4096_0_1_2_3 (broadcastInDim S1x8x4096x1 ![0, 1, 2] bcast_S1x8x4096_S1x8x4096x1_0_1_2 (Host.reduce FloatOps.maximumf s (constant S_ .f32 0xFF800000#32) reducesTo_S1x8x4096x4096_S1x8x4096_d3 h_S_))))

/-- The sum of a query's exponentials. -/
def sums (w : FVec F S1x8x4096x4096 .f32) : FVec F S1x8x4096 .f32 :=
  Host.reduceAdd w (constant S_ .f32 0x00000000#32) reducesTo_S1x8x4096x4096_S1x8x4096_d3 h_S_

/-- What a query's exponentials are divided by. -/
def divisors (l : FVec F S1x8x4096 .f32) : FVec F S1x8x4096x1 .f32 :=
  select (broadcastInDim S1x8x4096x1 ![0, 1, 2, 3] bcast_S1x1x4096x1_S1x8x4096x1_0_1_2_3 keep) (broadcastInDim S1x8x4096x1 ![0, 1, 2] bcast_S1x8x4096_S1x8x4096x1_0_1_2 l) (broadcastInDim S1x8x4096x1 ![] bcast_S_S1x8x4096x1 (id (constant S_ .f32 0x3F800000#32)))

/-- The weights: each exponential over their sum. -/
def shares (w : FVec F S1x8x4096x4096 .f32) (l : FVec F S1x8x4096x1 .f32) : FVec F S1x8x4096x4096 .f32 :=
  select (broadcastInDim S1x8x4096x4096 ![0, 1, 2, 3] bcast_S1x1x4096x1_S1x8x4096x4096_0_1_2_3 keep) (Host.divf w (broadcastInDim S1x8x4096x4096 ![0, 1, 2, 3] bcast_S1x8x4096x1_S1x8x4096x4096_0_1_2_3 l)) (broadcastInDim S1x8x4096x4096 ![] bcast_S_S1x8x4096x4096 (id (constant S_ .f32 0x00000000#32)))

/-- The values, mixed, the heads side by side. -/
def mixed (v : FVec F S1x4096x8x128 .bf16) (w : FVec F S1x8x4096x4096 .f32) : FVec F S1x4096x1024 .f32 :=
  shapeCast _ (transpose S1x4096x8x128 [0, 3, 1, 2] (Host.dotGeneral dot_S1x4096x8x128_S1x8x4096x4096_S1x8x128x4096_1_3_3_2_02_01 none (extf .f32 v bitsLt_bf16_f32) w) transposes_S1x8x128x4096_S1x4096x8x128_0_3_1_2) shapeCasts_S1x4096x8x128_S1x4096x1024

/-- The result. -/
def out (ctx : FVec F S1x4096x1024 .f32) (wo : FVec F S1024x1024 .bf16) : FVec F S1x4096x1024 .f32 :=
  Host.dotGeneral dot_S1x4096x1024_S1024x1024_S1x4096x1024_2_0_01_1_n_n none ctx (extf .f32 wo bitsLt_bf16_f32)

/-- The weights, of the scores. -/
def softmax (s : FVec F S1x8x4096x4096 .f32) : FVec F S1x8x4096x4096 .f32 := shares (exps s) (divisors (sums (exps s)))

theorem res_eq (m : (ℓ : Loc nD τ sig) → Buf (Elt F) ℓ) (c : Dev nD) :
    res_main_v40 m c = out (mixed (m ((c.tc : Thread nD τ).loc main_arg3))
      (softmax (scores (queries (m ((c.tc : Thread nD τ).loc main_arg0)) (m ((c.tc : Thread nD τ).loc main_arg1)))
        (m ((c.tc : Thread nD τ).loc main_arg2))))) (m ((c.tc : Thread nD τ).loc main_arg4)) := rfl

end

theorem bits_bot : Ideal.ofBits FTy.f32 0xFF800000#32 = ⊥ := by
  simp [Ideal.ofBits, Ideal.ieee, -EReal.coe_mul]

theorem bits_128 : Ideal.ofBits FTy.f32 0x43000000#32 = ((128 : ℝ) : EReal) := by
  simp [Ideal.ofBits, Ideal.ieee, -EReal.coe_mul]
  norm_num

theorem out_apply (ctx : FVec Ideal S1x4096x1024 .f32) (wo : FVec Ideal S1024x1024 .bf16) (r : Fin 4096) (n : Fin 1024) :
    out (F := Ideal) ctx wo (ix3 0 r n) = ∑ k : Fin 1024, ctx (ix3 0 r k) * wo (ix2 k n) := by
  pointwise [out]

theorem mixed_apply (v : FVec Ideal S1x4096x8x128 .bf16) (w : FVec Ideal S1x8x4096x4096 .f32) (r : Fin 4096) (k : Fin 1024) :
    mixed (F := Ideal) v w (ix3 0 r k)
      = ∑ j : Fin 4096, v (ix4 0 j ⟨k.val / 128, by omega⟩ ⟨k.val % 128, by omega⟩) * w (ix4 0 ⟨k.val / 128, by omega⟩ r j) := by
  pointwise [mixed]

theorem queries_apply (x : FVec Ideal S1x4096x1024 .bf16) (wq : FVec Ideal S1024x1024 .bf16) (r : Fin 4096) (h : Fin 8) (d : Fin 128) :
    queries (F := Ideal) x wq (ix4 0 r h d) = ∑ k : Fin 1024, x (ix3 0 r k) * wq (ix2 k ⟨h.val * 128 + d.val, by omega⟩) := by
  pointwise [queries]

theorem exps_apply (s : FVec Ideal S1x8x4096x4096 .f32) (h : Fin 8) (r j : Fin 4096) :
    exps (F := Ideal) s (ix4 0 h r j) = Ideal.exp (s (ix4 0 h r j) - Finset.univ.fold max ⊥ fun j => s (ix4 0 h r j)) := by
  pointwise [exps]
  rw [bits_bot]

/-- A position's block of 64, of one word. -/
def blockWord (v : BitVec 32) : BitVec 32 :=
  Scalar.select
    (IntOp.andi
      (IntOp.cmpi CmpIPredicate.ne (if v = 0 then 0 else if v.msb = true then -1 else 1 : BitVec 32)
        (if (64#32 : BitVec 32) = 0 then 0 else if (64#32 : BitVec 32).msb = true then -1 else 1))
      (IntOp.cmpi CmpIPredicate.ne (IntOp.remsi ArithUnit.host v 64#32) 0#32))
    (IntOp.subi (IntOp.divsi ArithUnit.host v 64#32) 1#32)
    (IntOp.divsi ArithUnit.host v 64#32)

theorem blockWord_eq : ∀ n : Fin 4096, blockWord (BitVec.ofNat 32 n.val) = BitVec.ofNat 32 (n.val / 64) := by decide +kernel

theorem blocks_apply (r : Fin 4096) : blocks (ix1 r) = BitVec.ofNat 32 (r.val / 64) := by
  pointwise [blocks, id_eq]
  show blockWord (BitVec.ofNat 32 r.val) = _
  exact blockWord_eq r

theorem visible_apply (r j : Fin 4096) : visible (ix2 r j) = BitVec.ofBool (decide (j.val / 64 ≤ r.val / 64)) := by
  pointwise [visible]
  rw [blocks_apply, blocks_apply]
  exact word_le ⟨j.val / 64, by omega⟩ ⟨r.val / 64, by omega⟩

/-- Every query sees a key: its own. -/
theorem keep_apply (r : Fin 4096) : keep (ix4 0 0 r 0) = 1#1 := by
  pointwise [keep]
  rw [Routing.fold_ori]
  exact ⟨r, Finset.mem_univ r, by rw [visible_apply, decide_eq_true (le_refl _)]; rfl⟩

theorem scores_apply (q : FVec Ideal S1x4096x8x128 .f32) (k : FVec Ideal S1x4096x8x128 .bf16) (h : Fin 8) (r j : Fin 4096) :
    scores (F := Ideal) q k (ix4 0 h r j) = if j.val / 64 ≤ r.val / 64 then
      Ideal.div (∑ d : Fin 128, q (ix4 0 r h d) * k (ix4 0 j h d)) (Real.sqrt 128 : ℝ) else ⊥ := by
  pointwise [scores, id_eq]
  rw [visible_apply, bits_128, bits_bot]
  rw [Ideal.sqrt_coe, if_neg (by norm_num)]
  by_cases hv : j.val / 64 ≤ r.val / 64
  · rw [if_pos hv, decide_eq_true hv]; rfl
  · rw [if_neg hv, decide_eq_false hv]; rfl

theorem divisors_apply (l : FVec Ideal S1x8x4096 .f32) (h : Fin 8) (r : Fin 4096) :
    divisors (F := Ideal) l (ix4 0 h r 0) = l (ix3 0 h r) := by
  pointwise [divisors]
  rw [keep_apply]
  rfl

theorem shares_apply (w : FVec Ideal S1x8x4096x4096 .f32) (l : FVec Ideal S1x8x4096x1 .f32) (h : Fin 8) (r j : Fin 4096) :
    shares (F := Ideal) w l (ix4 0 h r j) = Ideal.div (w (ix4 0 h r j)) (l (ix4 0 h r 0)) := by
  pointwise [shares]
  rw [keep_apply]
  rfl

theorem sums_apply (w : FVec Ideal S1x8x4096x4096 .f32) (h : Fin 8) (r : Fin 4096) :
    sums (F := Ideal) w (ix3 0 h r) = ∑ j : Fin 4096, w (ix4 0 h r j) := by
  pointwise [sums]

/-- The weights are the softmax of the scores. -/
theorem softmax_apply (s : FVec Ideal S1x8x4096x4096 .f32) (h : Fin 8) (r j : Fin 4096) :
    softmax (F := Ideal) s (ix4 0 h r j)
      = Ideal.div (Ideal.exp (s (ix4 0 h r j) - Finset.univ.fold max ⊥ fun j => s (ix4 0 h r j)))
          (∑ i : Fin 4096, Ideal.exp (s (ix4 0 h r i) - Finset.univ.fold max ⊥ fun j => s (ix4 0 h r j))) := by
  rw [softmax, shares_apply, divisors_apply, sums_apply, exps_apply]
  exact congrArg (Ideal.div _) (Finset.sum_congr rfl fun i _ => exps_apply s h r i)

/-- A query sees the keys of its own block and of those before. -/
def sees (r j : Fin 4096) : Prop := j.val / 64 ≤ r.val / 64

instance (r : Fin 4096) : DecidablePred (sees r) := fun _ => Nat.decLe _ _

/-- The result, the products of the queries and the keys being the reals `a`: each head averages the values with the
    scores `a` over `√128`, and the heads side by side go through the last product. -/
theorem result_apply (x : FVec Ideal S1x4096x1024 .bf16) (wq wo : FVec Ideal S1024x1024 .bf16) (k v : FVec Ideal S1x4096x8x128 .bf16)
    (a : Fin 8 → Fin 4096 → Fin 4096 → ℝ)
    (ha : ∀ h r j, ∑ d : Fin 128, (∑ i : Fin 1024, x (ix3 0 r i) * wq (ix2 i ⟨h.val * 128 + d.val, by omega⟩)) * k (ix4 0 j h d) = (a h r j : EReal))
    (r : Fin 4096) (n : Fin 1024) :
    out (F := Ideal) (mixed v (softmax (scores (queries x wq) k))) wo (ix3 0 r n)
      = ∑ i : Fin 1024, average (fun j => a ⟨i.val / 128, by omega⟩ r j * (1 / Real.sqrt 128)) (sees r)
          (fun j => v (ix4 0 j ⟨i.val / 128, by omega⟩ ⟨i.val % 128, by omega⟩)) * wo (ix2 i n) := by
  rw [out_apply]
  refine Finset.sum_congr rfl fun i _ => congrArg (· * _) ?_
  rw [mixed_apply]
  refine Eq.trans (Finset.sum_congr rfl fun j _ => by rw [softmax_apply]) (softmax_average _ (sees r) _ ⟨r, le_refl _⟩ _ fun j => ?_)
  rw [scores_apply]
  simp only [queries_apply]
  rw [ha ⟨i.val / 128, by omega⟩ r j, Ideal.div_coe (Real.sqrt_pos.mpr (by norm_num)).ne', ← EReal.coe_mul]
  rfl

end Attn.Ref
-- ==== Proof.Algebraic.lean ====
/- The kernel's result is the reference's. -/
module

public import proofs.«01_k».proof.Proof.Frames
public import proofs.«01_k».proof.Proof.Finite
public import proofs.«01_k».proof.Proof.KernelValue
public import proofs.«01_k».proof.Proof.ReferenceValue
public import Idealize.ShloMosaic.Lib.Layout

@[expose] public section

set_option maxRecDepth 100000

noncomputable section

namespace Attn

open Idealize.ShloMosaic Idealize.ShloMosaic.TcCoe
open Idealize.SL Idealize.SL.Sem
open Cert.Kernel Cert.Kernel.Gen

/-- Row `p.2` of device `p.1`'s block, in the whole array. -/
def glue : Fin 4 × Fin 1024 ≃ Fin 4096 := finProdFinEquiv

theorem glue_val (p : Fin 4 × Fin 1024) : (glue p).val = 1024 * p.1.val + p.2.val := by
  show p.2.val + 1024 * p.1.val = _
  omega

theorem sees_glue (c : Dev nD) (r : Fin 1024) (p : Fin 4 × Fin 1024) : sees c r p ↔ Ref.sees (glue (c, r)) (glue p) := by
  unfold sees Ref.sees
  rw [glue_val, glue_val]

theorem qScale_eq : qScale = (((Real.sqrt 128)⁻¹ * (Real.log 2)⁻¹ : ℝ) : EReal) :=
  IdealRules.named_const.ideal_named_scalar _ _ _ _ rfl

theorem maskOff_eq : maskOff = (⊥ : EReal) := IdealRules.named_const.ideal_named_scalar _ _ _ _ rfl

/-! ## A device's blocks -/

theorem block_rows (h : Layout.Tiles ⟨3, ![1, 1024, 1024]⟩ ⟨3, ![1, 4096, 1024]⟩ 1 4) (c : Fin 4)
    (v : (⟨3, ![1, 4096, 1024]⟩ : Shape).Idx → EReal) (r n : Fin 1024) :
    Layout.block ⟨3, ![1, 1024, 1024]⟩ ⟨3, ![1, 4096, 1024]⟩ 1 4 c v h (ix3 0 r n) = v (ix3 0 (glue (c, r)) n) := by
  rw [Layout.block_apply]
  refine congrArg v (funext fun a => Fin.ext ?_)
  rw [Layout.Tiles.idx_val]
  match a with
  | 0 => rfl
  | 1 => exact (Nat.mul_comm c.val 1024 ▸ (glue_val (c, r)).symm : c.val * 1024 + r.val = (glue (c, r)).val)
  | 2 => rfl

theorem block_heads (h : Layout.Tiles ⟨4, ![1, 1024, 8, 128]⟩ ⟨4, ![1, 4096, 8, 128]⟩ 1 4) (c : Fin 4)
    (v : (⟨4, ![1, 4096, 8, 128]⟩ : Shape).Idx → EReal) (j : Fin 1024) (n : Fin 8) (d : Fin 128) :
    Layout.block ⟨4, ![1, 1024, 8, 128]⟩ ⟨4, ![1, 4096, 8, 128]⟩ 1 4 c v h (ix4 0 j n d) = v (ix4 0 (glue (c, j)) n d) := by
  rw [Layout.block_apply]
  refine congrArg v (funext fun a => Fin.ext ?_)
  rw [Layout.Tiles.idx_val]
  match a with
  | 0 => rfl
  | 1 => exact (Nat.mul_comm c.val 1024 ▸ (glue_val (c, j)).symm : c.val * 1024 + j.val = (glue (c, j)).val)
  | 2 => rfl
  | 3 => rfl

theorem table_apply (t : S1x1024x8x128.Idx → EReal) (j : Fin 1024) (h : Fin 8) (d : Fin 128) :
    shapeCast S1024x1024 t shapeCasts_S1x1024x8x128_S1024x1024 (ix2 j (headCol h d)) = t (ix4 0 j h d) := by
  have hd : (⟨(headCol h d).val / 128, by omega⟩ : Fin 8) = h := Fin.ext (by show (128 * h.val + d.val) / 128 = h.val; omega)
  have hm : (⟨(headCol h d).val % 128, by omega⟩ : Fin 128) = d := Fin.ext (by show (128 * h.val + d.val) % 128 = d.val; omega)
  have e : shapeCast S1024x1024 t shapeCasts_S1x1024x8x128_S1024x1024 (ix2 j (headCol h d))
      = t (ix4 0 j ⟨(headCol h d).val / 128, by omega⟩ ⟨(headCol h d).val % 128, by omega⟩) := by
    pointwise
  rw [e, hd, hm]

theorem rows_apply (t : S1x1024x1024.Idx → EReal) (r n : Fin 1024) :
    shapeCast S1024x1024 t shapeCasts_S1x1024x1024_S1024x1024 (ix2 r n) = t (ix3 0 r n) := by
  pointwise

theorem answer_apply (m : (ℓ : Loc nD τ sig) → Buf (Elt Ideal) ℓ) (qs mask : Ideal .f32) (c : Dev nD) (r n : Fin 1024) :
    answer (F := Ideal) m qs mask c (ix3 0 r n) = outOf m qs mask c (ix2 r n) := by
  unfold answer
  pointwise

/-! ## The two results, of the same arrays -/

section
variable (x : (⟨3, ![1, 4096, 1024]⟩ : Shape).Idx → EReal) (wq wo : (⟨2, ![1024, 1024]⟩ : Shape).Idx → EReal)
  (k v : (⟨4, ![1, 4096, 8, 128]⟩ : Shape).Idx → EReal)
  (X : Fin 4096 → Fin 1024 → ℝ) (W : Fin 1024 → Fin 1024 → ℝ) (K : Fin 4096 → Fin 8 → Fin 128 → ℝ)

/-- A query and a key's product. -/
def prod (h : Fin 8) (r j : Fin 4096) : ℝ := ∑ d : Fin 128, (∑ i : Fin 1024, X r i * W i (headCol h d)) * K j h d

theorem query_coe (hX : ∀ r i, x (ix3 0 r i) = (X r i : EReal)) (hW : ∀ i n, wq (ix2 i n) = (W i n : EReal)) (r : Fin 4096) (n : Fin 1024) :
    ∑ i : Fin 1024, x (ix3 0 r i) * wq (ix2 i n) = ((∑ i : Fin 1024, X r i * W i n : ℝ) : EReal) := by
  rw [coe_sum']
  exact Finset.sum_congr rfl fun i _ => by rw [hX, hW, EReal.coe_mul]

/-- A device's result is its rows of the reference's. -/
theorem result_eq (hX : ∀ r i, x (ix3 0 r i) = (X r i : EReal)) (hW : ∀ i n, wq (ix2 i n) = (W i n : EReal))
    (hK : ∀ j h d, k (ix4 0 j h d) = (K j h d : EReal))
    (c : Dev nD) (own : Bool → Dev nD → Table Ideal) (xc : Table Ideal)
    (hx : ∀ r i, xc (ix2 r i) = x (ix3 0 (glue (c, r)) i))
    (hk : ∀ e j h d, own false e (ix2 j (headCol h d)) = k (ix4 0 (glue (e, j)) h d))
    (hv : ∀ e j h d, own true e (ix2 j (headCol h d)) = v (ix4 0 (glue (e, j)) h d)) (r n : Fin 1024) :
    result (F := Ideal) c own qScale maskOff xc wq wo (ix2 r n)
      = Ref.out (F := Ideal) (Ref.mixed v (Ref.softmax (Ref.scores (Ref.queries x wq) k))) wo (ix3 0 (glue (c, r)) n) := by
  rw [maskOff_eq]
  refine Eq.trans ?_ (Ref.result_apply x wq wo k v (prod X W K) (fun h r j => ?_) (glue (c, r)) n).symm
  · rw [result, projected_apply]
    refine Finset.sum_congr rfl fun i _ => congrArg (· * _) ?_
    have hi : i = headCol ⟨i.val / 128, by omega⟩ ⟨i.val % 128, by omega⟩ := Fin.ext (Nat.div_add_mod i.val 128).symm
    have hσ : Scored own (queries qScale xc wq) ⟨i.val / 128, by omega⟩
        fun r' p => prod X W K ⟨i.val / 128, by omega⟩ (glue (c, r')) (glue p) * (1 / Real.sqrt 128) := fun r' e j => by
      rw [one_div, ← exp2_scaled]
      refine congrArg Ideal.exp2 ?_
      rw [prod, Finset.sum_mul, coe_sum']
      refine Finset.sum_congr rfl fun d _ => ?_
      rw [queries_apply, hk, hK, qScale_eq]
      simp only [hx]
      rw [query_coe x wq X W hX hW, ← EReal.coe_mul, ← EReal.coe_mul, mul_right_comm]
    refine (congrArg (fun i => context (F := Ideal) c own ⊥ (queries qScale xc wq) (ix2 r i)) hi).trans ?_
    refine (context_average hσ r _).trans ?_
    rw [← average_equiv _ (Ref.sees (glue (c, r))) glue (sees c r) (sees_glue c r)]
    exact congrArg (average _ _) (funext fun p => hv p.1 p.2 _ _)
  · rw [prod, coe_sum']
    refine Finset.sum_congr rfl fun d _ => ?_
    rw [query_coe x wq X W hX hW, hK, ← EReal.coe_mul]
    rw [show (⟨h.val * 128 + d.val, by omega⟩ : Fin 1024) = headCol h d from Fin.ext (by show h.val * 128 + d.val = 128 * h.val + d.val; omega)]

end

/-! ## The claim -/

theorem glue_cover (I : Fin 4096) : ∃ c r, I = glue (c, r) := ⟨(glue.symm I).1, (glue.symm I).2, (glue.apply_symm_apply I).symm⟩

theorem algebraic [Cert.Pre_finite_queries_and_keys_KernelIdeal.Facts] :
    Cert.algebraic_KernelIdeal_ReferenceIdeal_pre_finite_queries_and_keys_KernelIdeal := fun m g m' g' hpre hin => by
  have hreal : ∀ c, _ := finite m hpre
  have hX : ∀ r i, ∃ a : ℝ, m' (((0 : Dev Cert.ReferenceIdeal.nD).tc : Thread Cert.ReferenceIdeal.nD Cert.ReferenceIdeal.τ).loc Cert.ReferenceIdeal.main_arg0) (ix3 0 r i) = (a : EReal) := fun R i => by
    obtain ⟨c, r, rfl⟩ := glue_cover R
    have h := (hreal c).1 (ix3 0 r i)
    rw [(hin c).1, block_rows] at h
    exact h
  have hW : ∀ i n, ∃ a : ℝ, m' (((0 : Dev Cert.ReferenceIdeal.nD).tc : Thread Cert.ReferenceIdeal.nD Cert.ReferenceIdeal.τ).loc Cert.ReferenceIdeal.main_arg1) (ix2 i n) = (a : EReal) := fun i n => by
    have h := (hreal 0).2.1 (ix2 i n)
    rw [(hin 0).2.1] at h
    exact h
  have hK : ∀ j h d, ∃ a : ℝ, m' (((0 : Dev Cert.ReferenceIdeal.nD).tc : Thread Cert.ReferenceIdeal.nD Cert.ReferenceIdeal.τ).loc Cert.ReferenceIdeal.main_arg2) (ix4 0 j h d) = (a : EReal) := fun J n d => by
    obtain ⟨c, j, rfl⟩ := glue_cover J
    have h := (hreal c).2.2 (ix4 0 j n d)
    rw [(hin c).2.2.1, block_heads] at h
    exact h
  choose X hX using hX
  choose W hW using hW
  choose K hK using hK
  refine ⟨Cert.ReferenceIdeal.Value.res_main_v40 m' 0, ?_, ?_⟩
  · refine (θ_run Cert.KernelIdeal.defs _ _).mono (fun s hs c => ⟨(hs.1 c).1.trans (funext fun i => ?_), (hs.1 c).2⟩) (run_ideal m g)
    obtain ⟨r, n, rfl⟩ : ∃ r n : Fin 1024, i = ix3 0 r n := ⟨i 1, i 2, (eq_ix3 i).trans (by rw [show i 0 = (0 : Fin 1) from Fin.ext (by have : (i 0).val < 1 := (i 0).isLt; show (i 0).val = 0; omega)])⟩
    rw [block_rows, Ref.res_eq, answer_apply]
    show result (F := Ideal) c (ownOf m) qScale maskOff (xOf m c) (wqOf m c) (woOf m c) (ix2 r n) = _
    have hwq : wqOf (F := Ideal) m c = m' (((0 : Dev Cert.ReferenceIdeal.nD).tc : Thread Cert.ReferenceIdeal.nD Cert.ReferenceIdeal.τ).loc Cert.ReferenceIdeal.main_arg1) :=
      (wqOf_eq m c).trans (hin c).2.1
    have hwo : woOf (F := Ideal) m c = m' (((0 : Dev Cert.ReferenceIdeal.nD).tc : Thread Cert.ReferenceIdeal.nD Cert.ReferenceIdeal.τ).loc Cert.ReferenceIdeal.main_arg4) :=
      (woOf_eq m c).trans (hin c).2.2.2.2
    rw [hwq, hwo]
    exact result_eq _ _ _ _ _ X W K hX hW hK c (ownOf m) (xOf m c)
      (fun r i => (congrFun (xOf_eq (F := Ideal) m c) _).trans ((rows_apply _ r i).trans ((congrFun (hin c).1 _).trans (block_rows _ c _ r i))))
      (fun e j h d => (congrFun (keysOf_eq (F := Ideal) m e) _).trans ((table_apply _ j h d).trans ((congrFun (hin e).2.2.1 _).trans (block_heads _ e _ j h d))))
      (fun e j h d => (congrFun (valuesOf_eq (F := Ideal) m e) _).trans ((table_apply _ j h d).trans ((congrFun (hin e).2.2.2.1 _).trans (block_heads _ e _ j h d))))
      r n
  · exact (θ_run Cert.ReferenceIdeal.defs _ _).mono (fun s hs => hs 0) (Cert.ReferenceIdeal.Value.run (F := Ideal) m' g')

end Attn
-- ==== Proof.lean ====
/- The claim, put together. -/
module

public import proofs.«01_k».proof.Defs
public import proofs.«01_k».proof.Proof.Frames
public import proofs.«01_k».proof.Proof.Algebraic
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

theorem claim : Cert.Claim :=
  haveI := Attn.facts_kernel
  haveI := Attn.facts_reference
  ⟨Cert.Kernel.Gen.facts, Cert.KernelIdeal.Gen.facts, Cert.ReferenceIdeal.Gen.facts, Attn.facts_kernel, Attn.facts_reference,
    Attn.frame_kernel, Attn.frame_ideal, Attn.frame_ideal_finite, Attn.frame_reference, Attn.frame_reference_finite, Attn.preserves,
    Attn.algebraic⟩

end Cert.Proof

end
